-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_ReferenceIdeal [hPre_bounded_ReferenceIdeal : Cert.Pre_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded_ReferenceIdeal [hReferenceIdeal : Cert.ReferenceIdeal.Facts] [hPre_bounded_ReferenceIdeal : Cert.Pre_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_pre_bounded_KernelIdeal [hKernelIdeal : Cert.KernelIdeal.Facts] [hReferenceIdeal : Cert.ReferenceIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hPre_bounded_KernelIdeal : Cert.Pre_bounded_KernelIdeal.Facts) (hPre_bounded_ReferenceIdeal : Cert.Pre_bounded_ReferenceIdeal.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_ReferenceIdeal_pre_bounded_ReferenceIdeal (hReferenceIdeal := hReferenceIdeal) (hPre_bounded_ReferenceIdeal := hPre_bounded_ReferenceIdeal)
    ∧ quiescent_SiluIdeal (hSiluIdeal := hSiluIdeal)
    ∧ preserves_Kernel_KernelIdeal
    ∧ algebraic_KernelIdeal_ReferenceIdeal_pre_bounded_KernelIdeal (hKernelIdeal := hKernelIdeal) (hReferenceIdeal := hReferenceIdeal) (hPre_bounded_KernelIdeal := hPre_bounded_KernelIdeal)
    ∧ algebraic_KernelIdeal_SiluIdeal (hKernelIdeal := hKernelIdeal) (hSiluIdeal := hSiluIdeal)
-- ==== Pre_bounded_KernelIdeal.lean ====
abbrev S1024x4096 : Shape := ⟨2, ![1024, 4096]⟩
abbrev S4096x2048 : Shape := ⟨2, ![4096, 2048]⟩
abbrev S_ : Shape := ⟨0, ![]⟩
abbrev S1024 : Shape := ⟨1, ![1024]⟩
abbrev S2048 : Shape := ⟨1, ![2048]⟩

class Facts : Prop where
  reducesTo_S1024x4096_S1024_d1 : S1024x4096.ReducesTo [1] S1024
  h_S_ : 0 < S_.numel
  reducesTo_S4096x2048_S2048_d0 : S4096x2048.ReducesTo [0] S2048
  bcast_S_S1024 : S_.BroadcastsInDim S1024 (![] : Fin 0 → Fin S1024.rank)
  reducesTo_S1024_S_d0 : S1024.ReducesTo [0] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S1024x4096 .f32) (main_arg1 : FVec F S4096x2048 .f32) : IVec S_ 1 :=
  let main_v0 : FVec F S1024x4096 .f32 := mulf main_arg0 main_arg0
  let main_cst : FVec F S_ .f32 := constant S_ .f32 0x00000000#32
  let main_v1 : FVec F S1024 .f32 := (fun x v => Host.reduceAdd x v reducesTo_S1024x4096_S1024_d1 h_S_) main_v0 main_cst
  let main_v2 : FVec F S4096x2048 .f32 := mulf main_arg1 main_arg1
  let main_cst_0 : FVec F S_ .f32 := constant S_ .f32 0x00000000#32
  let main_v3 : FVec F S2048 .f32 := (fun x v => Host.reduceAdd x v reducesTo_S4096x2048_S2048_d0 h_S_) main_v2 main_cst_0
  let main_cst_1 : FVec F S_ .f32 := constant S_ .f32 0x45800000#32
  let main_v4 : FVec F S1024 .f32 := broadcastInDim S1024 ![] bcast_S_S1024 main_cst_1
  let main_v5 : IVec S1024 1 := cmpf .ole main_v1 main_v4
  let main_c : IVec S_ 1 := constantI S_ 1 1#1
  let main_v6 : IVec S_ 1 := (fun x v => Host.reduce IntOp.andi x v reducesTo_S1024_S_d0 h_S_) main_v5 main_c
  let main_cst_2 : FVec F S_ .f32 := constant S_ .f32 0x3F610000#32
  let main_v7 : FVec F S2048 .f32 := broadcastInDim S2048 ![] bcast_S_S2048 main_cst_2
  let main_v8 : IVec S2048 1 := cmpf .ole main_v3 main_v7
  let main_c_3 : IVec S_ 1 := constantI S_ 1 1#1
  let main_v9 : IVec S_ 1 := (fun x v => Host.reduce IntOp.andi x v reducesTo_S2048_S_d0 h_S_) main_v8 main_c_3
  let main_v10 : IVec S_ 1 := andi main_v6 main_v9
  main_v10
-- ==== Pre_bounded_ReferenceIdeal.lean ====
abbrev S4096x4096 : Shape := ⟨2, ![4096, 4096]⟩
abbrev S4096x8192 : Shape := ⟨2, ![4096, 8192]⟩
abbrev S_ : Shape := ⟨0, ![]⟩
abbrev S4096 : Shape := ⟨1, ![4096]⟩
abbrev S8192 : Shape := ⟨1, ![8192]⟩

class Facts : Prop where
  reducesTo_S4096x4096_S4096_d1 : S4096x4096.ReducesTo [1] S4096
  h_S_ : 0 < S_.numel
  reducesTo_S4096x8192_S8192_d0 : S4096x8192.ReducesTo [0] S8192
  bcast_S_S4096 : S_.BroadcastsInDim S4096 (![] : Fin 0 → Fin S4096.rank)
  reducesTo_S4096_S_d0 : S4096.ReducesTo [0] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4096x4096 .f32) (main_arg1 : FVec F S4096x8192 .f32) : IVec S_ 1 :=
  let main_v0 : FVec F S4096x4096 .f32 := mulf main_arg0 main_arg0
  let main_cst : FVec F S_ .f32 := constant S_ .f32 0x00000000#32
  let main_v1 : FVec F S4096 .f32 := (fun x v => Host.reduceAdd x v reducesTo_S4096x4096_S4096_d1 h_S_) main_v0 main_cst
  let main_v2 : FVec F S4096x8192 .f32 := mulf main_arg1 main_arg1
  let main_cst_0 : FVec F S_ .f32 := constant S_ .f32 0x00000000#32
  let main_v3 : FVec F S8192 .f32 := (fun x v => Host.reduceAdd x v reducesTo_S4096x8192_S8192_d0 h_S_) main_v2 main_cst_0
  let main_cst_1 : FVec F S_ .f32 := constant S_ .f32 0x45800000#32
  let main_v4 : FVec F S4096 .f32 := broadcastInDim S4096 ![] bcast_S_S4096 main_cst_1
  let main_v5 : IVec S4096 1 := cmpf .ole main_v1 main_v4
  let main_c : IVec S_ 1 := constantI S_ 1 1#1
  let main_v6 : IVec S_ 1 := (fun x v => Host.reduce IntOp.andi x v reducesTo_S4096_S_d0 h_S_) main_v5 main_c
  let main_cst_2 : FVec F S_ .f32 := constant S_ .f32 0x3F610000#32
  let main_v7 : FVec F S8192 .f32 := broadcastInDim S8192 ![] bcast_S_S8192 main_cst_2
  let main_v8 : IVec S8192 1 := cmpf .ole main_v3 main_v7
  let main_c_3 : IVec S_ 1 := constantI S_ 1 1#1
  let main_v9 : IVec S_ 1 := (fun x v => Host.reduce IntOp.andi x v reducesTo_S8192_S_d0 h_S_) main_v8 main_c_3
  let main_v10 : IVec S_ 1 := andi main_v6 main_v9
  main_v10
-- ==== Kernel.lean ====
abbrev S1024x4096 : Shape := ⟨2, ![1024, 4096]⟩
abbrev S4096x2048 : Shape := ⟨2, ![4096, 2048]⟩
abbrev S4096x4096 : Shape := ⟨2, ![4096, 4096]⟩
abbrev S_ : Shape := ⟨0, ![]⟩
abbrev S4 : Shape := ⟨1, ![4]⟩
abbrev S1 : Shape := ⟨1, ![1]⟩
abbrev S512x4096 : Shape := ⟨2, ![512, 4096]⟩
abbrev S2 : Shape := ⟨1, ![2]⟩
abbrev S4096x512 : Shape := ⟨2, ![4096, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x4096, .f32⟩
  | .hbm, ⟨3, _⟩ => ⟨S4096x2048, .f32⟩
  | .local _ .vmem, ⟨0, _⟩ => ⟨S512x4096, .f32⟩
  | .local _ .vmem, ⟨1, _⟩ => ⟨S512x4096, .f32⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => false
  | ⟨1, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 2 19 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v3 : Ref sig .tc := ⟨.hbm, 3, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev barrier0 : Sem sig := 0
abbrev barrier1 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v13 : BitVec 32 := Scalar.muli v2 c1024_i32
  let v14 : BitVec 32 := Scalar.addi v13 c0_i32_10
  let c0_i32_20 : BitVec 32 := 0#32
  ![v14.toNat, 0]
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_18 : BitVec 32 := 1#32
  let v21 : BitVec 32 := Scalar.muli v7 c1_i32_18
  let v22 : BitVec 32 := Scalar.addi c0_i32_19 v21
  v22.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_25 : BitVec 32 := 1#32
  let v29 : BitVec 32 := Scalar.muli v7 c1_i32_25
  let v30 : BitVec 32 := Scalar.addi c0_i32_26 v29
  v30.toNat
def k0_dev5 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_32 : BitVec 32 := 1#32
  let v37 : BitVec 32 := Scalar.muli v5 c1_i32_32
  let v38 : BitVec 32 := Scalar.addi c0_i32_33 v37
  v38.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_38 : BitVec 32 := 1#32
  let v45 : BitVec 32 := Scalar.muli v5 c1_i32_38
  let v46 : BitVec 32 := Scalar.addi c0_i32_39 v45
  v46.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_43 : BitVec 32 := 1024#32
  let v53 : BitVec 32 := Scalar.muli v2 c1024_i32_43
  let c0_i32_44 : BitVec 32 := 0#32
  ![v53.toNat, 0]
abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k1_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k1_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1024_i32 : BitVec 32 := 1024#32
  let v15 : BitVec 32 := Scalar.muli v5 c1024_i32
  let c0_i32_17 : BitVec 32 := 0#32
  ![v15.toNat, 0]
def k1_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_15 : BitVec 32 := 1#32
  let v18 : BitVec 32 := Scalar.muli v7 c1_i32_15
  let v19 : BitVec 32 := Scalar.addi c0_i32_16 v18
  v19.toNat
def k1_off2 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c1024_i32_12 : BitVec 32 := 1024#32
  let v16 : BitVec 32 := Scalar.muli v7 c1024_i32_12
  let c512_i32 : BitVec 32 := 512#32
  let v17 : BitVec 32 := Scalar.addi v16 c512_i32
  let c0_i32_23 : BitVec 32 := 0#32
  ![v17.toNat, 0]
def k1_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_21 : BitVec 32 := 1#32
  let v26 : BitVec 32 := Scalar.muli v5 c1_i32_21
  let v27 : BitVec 32 := Scalar.addi c0_i32_22 v26
  v27.toNat
def k1_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1024_i32_25 : BitVec 32 := 1024#32
  let v34 : BitVec 32 := Scalar.muli v9 c1024_i32_25
  let c0_i32_30 : BitVec 32 := 0#32
  ![v34.toNat, 0]
abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.KernelIdeal.Geometry.lean ====
/-
  The geometry of the all-gather: the ring of four devices, the gathered array cut into eight half chunks of 512 rows,
  the contents every half chunk ends up with, and what a slice of either buffer covers and writes.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.Tactic
public import Idealize.ShloMosaic.Lib.Transfers
public import Idealize.ShloMosaic.Lib.Pointwise.Index

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

/-! ## The ring -/

/-- The neighbour to the left, -/
def lf (c : Dev nD) : Dev nD := ⟨(c.val + 3) % 4, Nat.mod_lt _ (by decide)⟩
/-- the neighbour to the right, -/
def rt (c : Dev nD) : Dev nD := ⟨(c.val + 1) % 4, Nat.mod_lt _ (by decide)⟩
/-- and the device opposite. -/
def opp (c : Dev nD) : Dev nD := ⟨(c.val + 2) % 4, Nat.mod_lt _ (by decide)⟩

theorem lf_rt : ∀ c : Dev nD, lf (rt c) = c := by decide
theorem rt_lf : ∀ c : Dev nD, rt (lf c) = c := by decide
theorem lf_lf : ∀ c : Dev nD, lf (lf c) = opp c := by decide
theorem rt_rt : ∀ c : Dev nD, rt (rt c) = opp c := by decide
/-- Going right around the ring, as a permutation, -/
def toRight : Dev nD ≃ Dev nD := ⟨rt, lf, lf_rt, rt_lf⟩
/-- and going left. -/
def toLeft : Dev nD ≃ Dev nD := ⟨lf, rt, rt_lf, lf_rt⟩

/-! ## The two buffers and their half chunks -/

/-- A device's own block of `x`, -/
abbrev xM : Memref sig .tc .hbm S1024x4096 .f32 := Memref.whole main_arg0
/-- and the array it gathers all the blocks in. -/
abbrev gM : Memref sig .tc .hbm S4096x4096 .f32 := Memref.whole main_v1

/-- Half `h` of chunk `k` of the gathered array: rows `1024 k + 512 h` up to `1024 k + 512 h + 511`. -/
def rows (k : Dev nD) (h : Fin 2) : Finset S4096x4096.Idx :=
  Finset.univ.filter fun i => (i 0).val / 512 = 2 * k.val + h.val
/-- Chunk `k`: both halves. -/
def chunk (k : Dev nD) : Finset S4096x4096.Idx :=
  Finset.univ.filter fun i => (i 0).val / 1024 = k.val
/-- Half `h` of a device's own block. -/
def xrows (h : Fin 2) : Finset S1024x4096.Idx :=
  Finset.univ.filter fun i => (i 0).val / 512 = h.val

theorem mem_rows {k : Dev nD} {h : Fin 2} {i : S4096x4096.Idx} : i ∈ rows k h ↔ (i 0).val / 512 = 2 * k.val + h.val := by
  unfold rows; rw [Finset.mem_filter]; exact ⟨fun h => h.2, fun h => ⟨Finset.mem_univ _, h⟩⟩
theorem mem_chunk {k : Dev nD} {i : S4096x4096.Idx} : i ∈ chunk k ↔ (i 0).val / 1024 = k.val := by
  unfold chunk; rw [Finset.mem_filter]; exact ⟨fun h => h.2, fun h => ⟨Finset.mem_univ _, h⟩⟩
theorem mem_xrows {h : Fin 2} {i : S1024x4096.Idx} : i ∈ xrows h ↔ (i 0).val / 512 = h.val := by
  unfold xrows; rw [Finset.mem_filter]; exact ⟨fun h => h.2, fun h => ⟨Finset.mem_univ _, h⟩⟩

/-- A chunk is its two halves. -/
theorem chunk_halves (k : Dev nD) : chunk k = rows k 0 ∪ rows k 1 := by
  ext i; rw [Finset.mem_union, mem_chunk, mem_rows, mem_rows]
  show _ ↔ _ = 2 * k.val + 0 ∨ _ = 2 * k.val + 1
  omega
theorem rows_disjoint {k k' : Dev nD} {h h' : Fin 2} (hne : (k, h) ≠ (k', h')) : Disjoint (rows k h) (rows k' h') := by
  rw [Finset.disjoint_left]; intro i; rw [mem_rows, mem_rows]; intro e e'
  apply hne
  have := h.isLt; have := h'.isLt
  refine Prod.ext (Fin.ext ?_) (Fin.ext ?_) <;> dsimp only <;> omega
/-- A device's own block is its two halves. -/
theorem x_halves : (Finset.univ : Finset S1024x4096.Idx) = xrows 0 ∪ xrows 1 := by
  ext i; rw [Finset.mem_union, mem_xrows, mem_xrows]
  have : (i 0).val < 1024 := (i 0).isLt
  show _ ↔ _ = 0 ∨ _ = 1
  exact ⟨fun _ => by omega, fun _ => Finset.mem_univ _⟩
theorem x_disjoint : Disjoint (xrows 0) (xrows 1) := by
  rw [Finset.disjoint_left]; intro i; rw [mem_xrows, mem_xrows]; intro e e'
  rw [e] at e'; exact absurd e' (by decide)
/-- The gathered array is its four chunks, counted from any device. -/
theorem all_chunks (c : Dev nD) : (Finset.univ : Finset S4096x4096.Idx) = chunk c ∪ (chunk (lf c) ∪ (chunk (rt c) ∪ chunk (opp c))) := by
  ext i; rw [Finset.mem_union, Finset.mem_union, Finset.mem_union, mem_chunk, mem_chunk, mem_chunk, mem_chunk]
  have : (i 0).val < 4096 := (i 0).isLt
  have : c.val < 4 := c.isLt
  refine ⟨fun _ => ?_, fun _ => Finset.mem_univ _⟩
  show _ = c.val ∨ _ = (c.val + 3) % 4 ∨ _ = (c.val + 1) % 4 ∨ _ = (c.val + 2) % 4
  omega
theorem chunk_disjoint {k k' : Dev nD} (h : k ≠ k') : Disjoint (chunk k) (chunk k') := by
  rw [Finset.disjoint_left]; intro i; rw [mem_chunk, mem_chunk]; intro e e'
  exact h (Fin.ext (e.symm.trans e'))

/-! ## Slices -/

/-- A 512-row slice of the gathered array at row `1024 k + 512 h` covers exactly that half chunk. -/
theorem slice_set (k : Dev nD) (h : Fin 2) (off : Fin 2 → Nat) (inb) (hoff : off = ![1024 * k.val + 512 * h.val, 0]) :
    (gM.slice (Rect.unit (s := S4096x4096) off S512x4096.size inb) (fun _ => rfl)).view.set = rows k h := by
  subst hoff
  refine (View.set_slice_whole _ _).trans ?_
  ext i
  rw [Rect.mem_set_unit, mem_rows]
  have h1 : (i 1).val < 4096 := (i 1).isLt
  constructor
  · intro H
    have := H 0
    have e : (1024 * k.val + 512 * h.val) ≤ (i 0).val ∧ (i 0).val < 1024 * k.val + 512 * h.val + 512 := this
    omega
  · intro e a
    match a with
    | ⟨0, _⟩ =>
      show (1024 * k.val + 512 * h.val) ≤ (i 0).val ∧ (i 0).val < 1024 * k.val + 512 * h.val + 512
      omega
    | ⟨1, _⟩ =>
      show 0 ≤ (i 1).val ∧ (i 1).val < 0 + 4096
      omega

/-- A 1024-row slice of the gathered array at row `1024 k` covers exactly chunk `k`. -/
theorem slice_chunk (k : Dev nD) (off : Fin 2 → Nat) (inb) (hoff : off = ![1024 * k.val, 0]) :
    (gM.slice (Rect.unit (s := S4096x4096) off S1024x4096.size inb) (fun _ => rfl)).view.set = chunk k := by
  subst hoff
  refine (View.set_slice_whole _ _).trans ?_
  ext i
  rw [Rect.mem_set_unit, mem_chunk]
  have h1 : (i 1).val < 4096 := (i 1).isLt
  constructor
  · intro H
    have e : (1024 * k.val) ≤ (i 0).val ∧ (i 0).val < 1024 * k.val + 1024 := H 0
    omega
  · intro e a
    match a with
    | ⟨0, _⟩ =>
      show (1024 * k.val) ≤ (i 0).val ∧ (i 0).val < 1024 * k.val + 1024
      omega
    | ⟨1, _⟩ =>
      show 0 ≤ (i 1).val ∧ (i 1).val < 0 + 4096
      omega

/-- A 512-row slice of a device's block at row `512 h` covers exactly half `h`. -/
theorem slice_x (h : Fin 2) (off : Fin 2 → Nat) (inb) (hoff : off = ![512 * h.val, 0]) :
    (xM.slice (Rect.unit (s := S1024x4096) off S512x4096.size inb) (fun _ => rfl)).view.set = xrows h := by
  subst hoff
  refine (View.set_slice_whole _ _).trans ?_
  ext i
  rw [Rect.mem_set_unit, mem_xrows]
  have h1 : (i 1).val < 4096 := (i 1).isLt
  constructor
  · intro H
    have e : (512 * h.val) ≤ (i 0).val ∧ (i 0).val < 512 * h.val + 512 := H 0
    omega
  · intro e a
    match a with
    | ⟨0, _⟩ =>
      show (512 * h.val) ≤ (i 0).val ∧ (i 0).val < 512 * h.val + 512
      omega
    | ⟨1, _⟩ =>
      show 0 ≤ (i 1).val ∧ (i 1).val < 0 + 4096
      omega

/-! ## Contents -/

variable (m : (ℓ : Loc nD τ sig) → Buf (Elt F) ℓ)

/-- Device `c`'s block of `x` at launch. -/
def xOf (c : Dev nD) : S1024x4096.Idx → Elt F .f32 := m ((c : Thread nD τ).loc main_arg0)

/-- The gathered array: row `r` is row `r mod 1024` of the block of device `r / 1024`. -/
def gX : S4096x4096.Idx → Elt F .f32 := fun i =>
  xOf m ⟨(i 0).val / 1024, by have : (i 0).val < 4096 := (i 0).isLt; show _ < 4; omega⟩ (ix2 ⟨(i 0).val % 1024, Nat.mod_lt _ (by decide)⟩ (i 1))

/-- Row `1024 k + r` of the gathered array is row `r` of device `k`'s block. -/
theorem gX_at (k : Dev nD) (i : S4096x4096.Idx) (j : S1024x4096.Idx) (h0 : (i 0).val = 1024 * k.val + (j 0).val) (h1 : (i 1).val = (j 1).val) :
    gX m i = xOf m k j := by
  have hj : (j 0).val < 1024 := (j 0).isLt
  have ek : (⟨(i 0).val / 1024, by have : (i 0).val < 4096 := (i 0).isLt; show _ < 4; omega⟩ : Dev nD) = k := Fin.ext (by dsimp only; omega)
  have ej : (ix2 ⟨(i 0).val % 1024, Nat.mod_lt _ (by decide)⟩ (i 1) : S1024x4096.Idx) = j := by
    funext a; apply Fin.ext
    match a with
    | ⟨0, _⟩ => show (i 0).val % 1024 = (j 0).val; omega
    | ⟨1, _⟩ => exact h1
  unfold gX
  exact congrArg₂ (xOf m) ek ej

/-- A half of device `k`'s block, written over the half chunk of the same name, makes the gathered array there. -/
theorem landed (k : Dev nD) (h : Fin 2) (off off' : Fin 2 → Nat) (inb) (inb') (hoff : off = ![1024 * k.val + 512 * h.val, 0])
    (hoff' : off' = ![512 * h.val, 0]) (fd : S4096x4096.Idx → Elt F .f32) (i : S4096x4096.Idx) (hi : i ∈ rows k h) :
    (gM.slice (Rect.unit (s := S4096x4096) off S512x4096.size inb) (fun _ => rfl)).view.write (Elt F) fd
      ((xM.slice (Rect.unit (s := S1024x4096) off' S512x4096.size inb') (fun _ => rfl)).view.read (Elt F) (xOf m k)) Finset.univ i = gX m i := by
  rw [← slice_set k h off inb hoff] at hi
  obtain ⟨x, -, rfl⟩ := Finset.mem_map.mp hi
  rw [View.write_emb_of_mem _ _ (Finset.mem_univ x), View.read_apply]
  subst hoff hoff'
  refine (cast_eq _ _).trans ((cast_eq _ _).trans (gX_at m k _ _ ?_ ?_).symm)
  · show (1024 * k.val + 512 * h.val) + 1 * (x 0).val = 1024 * k.val + (512 * h.val + 1 * (x 0).val)
    omega
  · rfl

/-- A device's whole block, written over its chunk, makes the gathered array there. -/
theorem copied (k : Dev nD) (off : Fin 2 → Nat) (inb) (hoff : off = ![1024 * k.val, 0])
    (fd : S4096x4096.Idx → Elt F .f32) (i : S4096x4096.Idx) (hi : i ∈ chunk k) :
    (gM.slice (Rect.unit (s := S4096x4096) off S1024x4096.size inb) (fun _ => rfl)).view.write (Elt F) fd
      (xM.view.read (Elt F) (xOf m k)) Finset.univ i = gX m i := by
  rw [← slice_chunk k off inb hoff] at hi
  obtain ⟨x, -, rfl⟩ := Finset.mem_map.mp hi
  rw [View.write_emb_of_mem _ _ (Finset.mem_univ x), View.read_apply]
  subst hoff
  refine (cast_eq _ _).trans ((cast_eq _ _).trans (gX_at m k _ _ ?_ ?_).symm)
  · show 1024 * k.val + 1 * (x 0).val = 1024 * k.val + (x 0).val
    omega
  · show 0 + 1 * (x 1).val = (x 1).val
    omega

/-- A half chunk of the gathered array, written over the same half chunk of another device's array, is the gathered array there. -/
theorem forwarded (k : Dev nD) (h : Fin 2) (off : Fin 2 → Nat) (inb) (hoff : off = ![1024 * k.val + 512 * h.val, 0])
    (fd fs : S4096x4096.Idx → Elt F .f32) (i : S4096x4096.Idx) (hi : i ∈ rows k h) :
    (gM.slice (Rect.unit (s := S4096x4096) off S512x4096.size inb) (fun _ => rfl)).view.write (Elt F) fd
      ((gM.slice (Rect.unit (s := S4096x4096) off S512x4096.size inb) (fun _ => rfl)).view.read (Elt F) fs) Finset.univ i = fs i := by
  rw [← slice_set k h off inb hoff] at hi
  obtain ⟨x, -, rfl⟩ := Finset.mem_map.mp hi
  rw [View.write_emb_of_mem _ _ (Finset.mem_univ x), View.read_apply]
  exact (cast_eq _ _).trans (cast_eq _ _)

end Cert.KernelIdeal.Talk

end
-- ==== Proof.KernelIdeal.Schedule.lean ====
/-
  The protocol of the two communicating calls, as one schedule of semaphore rounds: which duties each barrier and each
  transfer semaphore expects, what they hand over, in which order a device settles what it owes, and the rules a device's
  steps go by — signal, wait, send — in the protocol's own words.
-/
module

public import proofs.«01_k».proof.Proof.KernelIdeal.Geometry
public import Idealize.ShloMosaic.Lib.Pipeline.Regions

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

/-! ## The resource algebra: the staging pipeline's rounds, and the protocol's -/

/-- The protocol's rounds: a duty is named by a side, `true` the right, `false` the left (or the only one). -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells, points-tos -/

/-- The barrier semaphore of call `b` on device `c`, -/
abbrev bar (b : Fin 2) (c : Dev nD) : GSem nD τ sig := ((c : Thread nD τ), .reg b)
/-- and its transfer semaphore `j`: 0 the local copy, 1–4 the sends and 5–8 the receipts of call 0, 9–10 the sends and
    11–12 the receipts of call 1. -/
abbrev dma (j : Fin 19) (c : Dev nD) : GSem nD τ sig := ((c : Thread nD τ), .dma j)

/-- Rows `I` of device `c`'s gathered array, held at `f`. -/
abbrev gPt (c : Dev nD) (I : Finset S4096x4096.Idx) (f : S4096x4096.Idx → Elt F .f32) : sProp 𝕄 :=
  gM.view.loc (c : Thread nD τ) ↦[I]{fullShare} f
/-- Rows `I` of device `c`'s own block, held at share `q` at what it was at launch. -/
abbrev xPt (c : Dev nD) (I : Finset S1024x4096.Idx) (q : PosShare TreeShare) : sProp 𝕄 :=
  xM.view.loc (c : Thread nD τ) ↦[I]{q} xOf m c
/-- Rows `I` of device `c`'s gathered array, at contents not chosen. -/
def gAny (c : Dev nD) (I : Finset S4096x4096.Idx) : sProp 𝕄 := iprop(∃ f, gPt c I f)

/-- The block is read three ways at once: by the local copy, by the sends to the right, by the sends to the left. -/
abbrev qC : PosShare TreeShare := fullShare.left
abbrev qR : PosShare TreeShare := fullShare.right.left
abbrev qL : PosShare TreeShare := fullShare.right.right

/-! ## The schedule -/

/-- What a 512-row transfer credits, and what the 1024-row one does. -/
def NH : ℕ := RefSig.tileCredit S512x4096 .f32
def NC : ℕ := RefSig.tileCredit S1024x4096 .f32

/-- What the units of transfer semaphore `j` hand device `c`: the source back, or the rows that landed. -/
def dmaPay (c : Dev nD) (j : Fin 19) : sProp 𝕄 :=
  match j.val with
  | 0 => iprop(gPt c (chunk c) (gX m) ∗ xPt m c Finset.univ qC)
  | 1 => xPt m c (xrows 0) qR
  | 2 => xPt m c (xrows 1) qR
  | 3 => xPt m c (xrows 1) qL
  | 4 => xPt m c (xrows 0) qL
  | 5 => gPt c (rows (lf c) 0) (gX m)
  | 6 => gPt c (rows (lf c) 1) (gX m)
  | 7 => gPt c (rows (rt c) 1) (gX m)
  | 8 => gPt c (rows (rt c) 0) (gX m)
  | 9 => gPt c (rows (lf c) 0) (gX m)
  | 10 => gPt c (rows (rt c) 1) (gX m)
  | 11 => gPt c (rows (opp c) 0) (gX m)
  | 12 => gPt c (rows (opp c) 1) (gX m)
  | _ => iprop(emp)

/-- What a neighbour's barrier signal hands device `c`: in call 0 the neighbour's rows for `c`'s chunk, in call 1 its rows
    for the half chunk `c` passes on; and that the neighbour is ready to receive there. -/
def barPay (c : Dev nD) (b : Fin 2) (side : Bool) : sProp 𝕄 :=
  match b.val, side with
  | 0, true => iprop((gAny (rt c) (rows c 0) ∗ gAny (rt c) (rows c 1)) ∗ reached ER (dma 5 (rt c)) 0 ∗ reached ER (dma 6 (rt c)) 0)
  | 0, false => iprop((gAny (lf c) (rows c 0) ∗ gAny (lf c) (rows c 1)) ∗ reached ER (dma 8 (lf c)) 0 ∗ reached ER (dma 7 (lf c)) 0)
  | _, true => iprop(gAny (rt c) (rows (lf c) 0) ∗ reached ER (dma 11 (rt c)) 0)
  | _, false => iprop(gAny (lf c) (rows (rt c) 1) ∗ reached ER (dma 12 (lf c)) 0)

/-- The units a transfer semaphore's one duty contributes. -/
def amt (j : Fin 19) : ℕ := if j.val = 0 then NC else NH

theorem amt_pos (j : Fin 19) : 0 < amt j := by
  unfold amt NC NH
  split <;> exact RefSig.tileCredit_pos _ _ (by decide)

/-- One round each: both neighbours signal a barrier; one transfer credits a transfer semaphore. -/
def rd : Rounds.Schedule (GSem nD τ sig) Bool 𝕄 where
  duties g r := if r = 0 ∧ g.1.2 = .tc then (match g.2 with | .reg _ => Finset.univ | .dma j => if j.val < 13 then {false} else ∅) else ∅
  unitless _ := False
  amount g _ _ := match g.2 with | .reg _ => 1 | .dma j => amt j
  payload g _ d := match g.2 with | .reg b => barPay g.1.1 b d | .dma j => dmaPay m g.1.1 j
  amount_pos g _ _ _ := by
    rcases g with ⟨t, b | j⟩
    · exact Nat.one_pos
    · exact amt_pos j

instance gAny_storable (c : Dev nD) (I : Finset S4096x4096.Idx) : BI.Storable (upEmb : UEmb _ 𝕄) (gAny (F := F) c I) := by
  unfold gAny; infer_instance

instance rd_payload_storable (g : GSem nD τ sig) (r : ℕ) (d : Bool) : BI.Storable (upEmb : UEmb _ 𝕄) ((rd (F := F) m).payload g r d) := by
  rcases g with ⟨t, b | j⟩
  · show BI.Storable upEmb (barPay t.1 b d)
    unfold barPay
    (repeat' split) <;> infer_instance
  · show BI.Storable upEmb (dmaPay m t.1 j)
    unfold dmaPay
    (repeat' split) <;> infer_instance

theorem duties_bar (b : Fin 2) (c : Dev nD) : (rd (F := F) m).duties (bar b c) 0 = Finset.univ := by
  show (if (0 : ℕ) = 0 ∧ (Proc.tc : Proc τ) = .tc then (Finset.univ : Finset Bool) else ∅) = _
  exact if_pos ⟨rfl, rfl⟩
theorem duties_dma (j : Fin 19) (c : Dev nD) (h : j.val < 13) : (rd (F := F) m).duties (dma j c) 0 = {false} := by
  show (if (0 : ℕ) = 0 ∧ (Proc.tc : Proc τ) = .tc then (if j.val < 13 then ({false} : Finset Bool) else ∅) else ∅) = _
  rw [if_pos ⟨rfl, rfl⟩, if_pos h]
theorem payload_bar (b : Fin 2) (c : Dev nD) (d : Bool) : (rd (F := F) m).payload (bar b c) 0 d = barPay c b d := rfl
theorem duties_later (g : GSem nD τ sig) : ∀ r, 1 ≤ r → (rd (F := F) m).duties g r = ∅ :=
  fun r hr => if_neg fun h => by omega
theorem expect_bar (b : Fin 2) (c : Dev nD) : (rd (F := F) m).expect (bar b c) 0 = 2 := by
  unfold Schedule.expect Schedule.amountOf; rw [duties_bar]; rfl
theorem expect_dma (j : Fin 19) (c : Dev nD) (h : j.val < 13) : (rd (F := F) m).expect (dma j c) 0 = amt j := by
  unfold Schedule.expect Schedule.amountOf; rw [duties_dma m j c h, Finset.sum_singleton]; rfl
theorem rest_bar (b : Fin 2) (c : Dev nD) : bigSep ((rd (F := F) m).duties (bar b c) 0 \ ∅) (fun d => (rd (F := F) m).payload (bar b c) 0 d)
    = iprop(barPay c b true ∗ barPay c b false) := by
  rw [Finset.sdiff_empty, duties_bar]
  exact bigSep_univ_eq_bigSepL [true, false] (by decide) (by decide) _
theorem rest_dma (j : Fin 19) (c : Dev nD) (h : j.val < 13) :
    bigSep ((rd (F := F) m).duties (dma j c) 0 \ ∅) (fun d => (rd (F := F) m).payload (dma j c) 0 d) = dmaPay m c j := by
  rw [Finset.sdiff_empty, duties_dma m j c h, bigSep_singleton]; rfl

/-! ## Dues and levels -/

/-- A list of dues, settled from the head. -/
def owe : List (GSem nD τ sig × ℕ) → CellTallies nD τ sig Unit
  | [] => 0
  | p :: l => owe l + tallyAt p.1 () p.2

theorem owe_append : ∀ l l' : List (GSem nD τ sig × ℕ), owe (l ++ l') = owe l' + owe l
  | [], l' => (add_zero _).symm
  | p :: l, l' => by
    show owe (l ++ l') + _ = owe l' + (owe l + _)
    rw [owe_append l l', add_assoc]

theorem owe_pos : ∀ (l : List (GSem nD τ sig × ℕ)) (g : GSem nD τ sig) (u : Unit), 0 < owe l g u → ∃ p ∈ l, g = p.1
  | [], g, u, h => absurd h (Nat.lt_irrefl 0)
  | p :: l, g, u, h => by
    have h' : 0 < (owe l + tallyAt p.1 () p.2) g u := h
    rw [Pi.add_apply, Finsupp.add_apply] at h'
    rcases Nat.add_pos_iff_pos_or_pos.mp h' with h | h
    · obtain ⟨q, hq, e⟩ := owe_pos l g u h
      exact ⟨q, List.mem_cons_of_mem _ hq, e⟩
    · rw [tallyAt_apply] at h
      split at h
      · next hg => exact ⟨p, List.mem_cons_self, hg.1⟩
      · exact absurd h (Nat.lt_irrefl 0)

/-- What device `c` settles in call 0, in order, -/
def dues0 (c : Dev nD) : List (GSem nD τ sig × ℕ) :=
  [(bar 0 (lf c), 1), (bar 0 (rt c), 1), (dma 5 (rt c), NH), (dma 6 (rt c), NH), (dma 7 (lf c), NH), (dma 8 (lf c), NH)]
/-- and in call 1. -/
def dues1 (c : Dev nD) : List (GSem nD τ sig × ℕ) :=
  [(bar 1 (lf c), 1), (bar 1 (rt c), 1), (dma 11 (rt c), NH), (dma 12 (lf c), NH)]

def L (g : GSem nD τ sig) : Finset Unit := if g.1.2 = .tc then {()} else ∅
/-- A device waits on a cell only while everything it still owes lies higher. -/
def lvl : SemLoc sig → ℕ
  | .reg b => if b.val = 0 then 1 else 3
  | .dma j => if j.val < 9 then 2 else if j.val < 13 then 4 else 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

/-- Every due of the list is a TensorCore cell's, above level `n`. -/
def Above (n : ℕ) (l : List (GSem nD τ sig × ℕ)) : Prop := ∀ p ∈ l, p.1.1.2 = .tc ∧ n < lvl p.1.2

theorem mayWait (c : Dev nD) (sm : SemLoc sig) (l : List (GSem nD τ sig × ℕ)) (h : Above (lvl sm) l) :
    (levAts L lv : sProp 𝕄) ⊢ MayWait (c : Thread nD τ) sm () (owe l) :=
  MayOwe.of_cut (L := L) (lev := lv) (lvl sm) (fun p hp => by rw [Finset.mem_singleton.mp hp, L_tc]; exact Finset.mem_singleton_self _)
    (fun g u hg => by
      obtain ⟨p, hp, rfl⟩ := owe_pos l g u hg
      unfold L; rw [if_pos (h p hp).1]; exact Finset.mem_singleton_self _)
    (fun p hp => by rw [Finset.mem_singleton.mp hp]; exact le_refl _)
    (fun g u hg => by
      obtain ⟨p, hp, rfl⟩ := owe_pos l g u hg
      exact (h p hp).2)

/-! ## The records every device may consult -/

def barEmb : Dev nD × Fin 2 ↪ GSem nD τ sig :=
  ⟨fun p => bar p.2 p.1, fun p q h => by
    have h1 := congrArg (fun g : GSem nD τ sig => g.1.1) h
    have h2 : (SemLoc.reg p.2 : SemLoc sig) = .reg q.2 := congrArg Prod.snd h
    exact Prod.ext h1 (SemLoc.reg.inj h2)⟩
/-- The thirteen transfer semaphores of the protocol. -/
abbrev tr (k : Fin 13) : Fin 19 := ⟨k.val, by omega⟩
def scEmb : Dev nD × Fin 13 ↪ GSem nD τ sig :=
  ⟨fun p => dma (tr p.2) p.1, fun p q h => by
    have h1 := congrArg (fun g : GSem nD τ sig => g.1.1) h
    have h2 : (SemLoc.dma (tr p.2) : SemLoc sig) = .dma (tr q.2) := congrArg Prod.snd h
    exact Prod.ext h1 (Fin.ext (congrArg (fun j : Fin 19 => j.val) (SemLoc.dma.inj h2)))⟩

abbrev barCells : Finset (GSem nD τ sig) := Finset.univ.map barEmb
abbrev scCells : Finset (GSem nD τ sig) := Finset.univ.map scEmb

/-- Every cell's invariant, under one map of names; every barrier's round reached. Persistent. -/
def records (K : GSem nD τ sig → ℕ) : sProp 𝕄 :=
  iprop((bigSep (barCells ∪ scCells) fun g => cellInv ER (rd m) (K g) g) ∗ bigSep barCells fun g => reached ER g 0)

instance records_persistent (K : GSem nD τ sig → ℕ) : BI.Persistent (records m K) := by unfold records; infer_instance

theorem inv_bar (K : GSem nD τ sig → ℕ) (b : Fin 2) (c : Dev nD) : records m K ⊢ cellInv ER (rd m) (K (bar b c)) (bar b c) := by
  unfold records
  have hm : bar b c ∈ barCells := Finset.mem_map_of_mem barEmb (Finset.mem_univ (c, b))
  exact sep_elim_left.trans (bigSep_elim (Finset.mem_union_left _ hm))
theorem reached_bar (K : GSem nD τ sig → ℕ) (b : Fin 2) (c : Dev nD) : records m K ⊢ reached ER (bar b c) 0 := by
  unfold records
  have hm : bar b c ∈ barCells := Finset.mem_map_of_mem barEmb (Finset.mem_univ (c, b))
  exact sep_elim_right.trans (bigSep_elim hm)
theorem inv_dma (K : GSem nD τ sig → ℕ) (j : Fin 19) (h : j.val < 13) (c : Dev nD) :
    records m K ⊢ cellInv ER (rd m) (K (dma j c)) (dma j c) := by
  unfold records
  have hm : dma j c ∈ scCells := Finset.mem_map_of_mem scEmb (Finset.mem_univ (c, (⟨j.val, h⟩ : Fin 13)))
  exact sep_elim_left.trans (bigSep_elim (Finset.mem_union_right _ hm))

/-! ## The steps -/

abbrev 𝒱₀ : Variants := Variants.none

/-- Device `c` owes the dues of `l`. -/
def owing (c : Dev nD) (l : List (GSem nD τ sig × ℕ)) : sProp 𝕄 := iprop(∃ W, owes (c : Thread nD τ) (owe l) W)

variable [FloatOps F] (K : GSem nD τ sig → ℕ)

/-- Settle the head due, a neighbour's barrier unit. -/
theorem signal_step (b : Fin 2) (c e : Dev nD) (d : Bool) (l : List (GSem nD τ sig × ℕ)) {α : Type} {Q : α → sProp 𝕄}
    {k : PUnit → Prog (TpuEff nD τ sig (Elt F) Λ₀ .tc) α} :
    iprop(records m K ∗ owing c ((bar b e, 1) :: l) ∗ dutyTok ER (bar b e) 0 d ∗ barPay e b d
        ∗ (owing c l -∗ wp frame (wpE (defs₀ (F := F)) 𝒱₀ c none) Set.univ (k ⟨⟩) Q))
      ⊢ wp frame (wpE (defs₀ (F := F)) 𝒱₀ c none) Set.univ (.op (.semSignal (e : Thread nD τ) b 1) k) Q := by
  unfold owing
  iintro ⟨#HR, ⟨%W, HO⟩, Ht, Hp, Hk⟩
  iapply (Rounds.wp_signal 𝒱₀ ER (rd m) (c : Thread nD τ) none (dst := (e : Thread nD τ)) (sem := b) (r := 0) (d := d) (κ := K (bar b e))
      (by rw [duties_bar]; exact Finset.mem_univ _) rfl () (owe l) rfl) $$ [HO Ht Hp]
  · isplitr; · iapply (inv_bar m K b e); iexact HR
    isplitl [HO]; · iexact HO
    isplitl [Ht]; · iexact Ht
    isplitl [Hp]; · rw [payload_bar]; iexact Hp
    iapply (reached_bar m K b e); iexact HR
  iintro HO
  iapply Hk
  iexists W; iexact HO

/-- Wait for both neighbours at a barrier, and close it. -/
theorem barrier_step (b : Fin 2) (c : Dev nD) (l : List (GSem nD τ sig × ℕ)) (h : Above (lvl (.reg b)) l) {α : Type} {Q : α → sProp 𝕄}
    {k : PUnit → Prog (TpuEff nD τ sig (Elt F) Λ₀ .tc) α} :
    iprop(records m K ∗ levAts L lv ∗ owing c l ∗ cred (tallyAt (bar b c) () 2) ∗ atPos ER (bar b c) 0 ∅ 0
        ∗ ((owing c l ∗ semVal (bar b c) 0 ∗ barPay c b true ∗ barPay c b false) -∗ wp frame (wpE (defs₀ (F := F)) 𝒱₀ c none) Set.univ (k ⟨⟩) Q))
      ⊢ wp frame (wpE (defs₀ (F := F)) 𝒱₀ c none) Set.univ (.op (.semWait b 2) k) Q := by
  unfold owing
  iintro ⟨#HR, #Hlev, ⟨%W, HO⟩, Hc, Hat, Hk⟩
  iapply (Rounds.wp_wait_rest_token 𝒱₀ ER (rd m) (c : Thread nD τ) none (κ := K (bar b c))
      (wpE_semWait_eq 𝒱₀ (c : Thread nD τ) none Set.univ) (Set.mem_univ _) () (O := owe l) (W := W) (R := 0) (m := 0) (T := ∅)
      ((Nat.zero_add 2).trans (expect_bar m b c).symm)) $$ [Hc HO Hat]
  · isplitr; · iapply (inv_bar m K b c); iexact HR
    isplitl [Hc]; · iexact Hc
    isplitl [HO]; · iexact HO
    isplitr; · iapply (mayWait c (.reg b) l h); iexact Hlev
    iexact Hat
  iintro ⟨HO, Hat, -, Hpay⟩
  ihave Hp := (Entails.of_eq (rest_bar m b c)) $$ Hpay
  icases Hp with ⟨Hp1, Hp2⟩
  imod (Rounds.cell_close ER (rd m) (Set.mem_univ (K (bar b c))) id (duties_later m (bar b c))) $$ [Hat] with Hv
  · isplitr; · iapply (inv_bar m K b c); iexact HR
    iexact Hat
  iapply Hk
  isplitl [HO]; · iexists _; iexact HO
  isplitl [Hv]; · iexact Hv
  isplitl [Hp1] <;> iassumption

/-- Wait for a transfer, and close its semaphore. -/
theorem wait_step (j : Fin 19) (hj : j.val < 13) (c : Dev nD) (l : List (GSem nD τ sig × ℕ)) (h : Above (lvl (.dma j)) l) {sp sp' : Space} {s s' : Shape} {e e' : EltTy}
    {src : Memref sig .tc sp' s' e'} {κ' : Kind} {dst : Memref sig κ' sp s e} {hsrc : src.view.WordExact} {hdst : dst.view.WordExact} (hN : dst.view.dmaCredit = amt j)
    {α : Type} {Q : α → sProp 𝕄} {k : PUnit → Prog (TpuEff nD τ sig (Elt F) Λ₀ .tc) α} :
    iprop(records m K ∗ levAts L lv ∗ owing c l ∗ cred (tallyAt (dma j c) () (amt j)) ∗ atPos ER (dma j c) 0 ∅ 0
        ∗ ((owing c l ∗ semVal (dma j c) 0 ∗ dmaPay m c j) -∗ wp frame (wpE (defs₀ (F := F)) 𝒱₀ c none) Set.univ (k ⟨⟩) Q))
      ⊢ wp frame (wpE (defs₀ (F := F)) 𝒱₀ c none) Set.univ (.op (.waitDma2 j src dst hsrc hdst) k) Q := by
  unfold owing
  rw [← hN]
  iintro ⟨#HR, #Hlev, ⟨%W, HO⟩, Hc, Hat, Hk⟩
  iapply (Rounds.wp_wait_rest_token 𝒱₀ ER (rd m) (c : Thread nD τ) none (κ := K (dma j c))
      (wpE_waitDma2_eq (src := src) (dst := dst) 𝒱₀ (c : Thread nD τ) none Set.univ) (Set.mem_univ _) () (O := owe l) (W := W) (R := 0) (m := 0) (T := ∅)
      ((Nat.zero_add _).trans (hN.trans (expect_dma m j c hj).symm))) $$ [Hc HO Hat]
  · isplitr; · iapply (inv_dma m K j hj c); iexact HR
    isplitl [Hc]; · iexact Hc
    isplitl [HO]; · iexact HO
    isplitr; · iapply (mayWait c (.dma j) l h); iexact Hlev
    iexact Hat
  iintro ⟨HO, Hat, -, Hpay⟩
  ihave Hp := (Entails.of_eq (rest_dma m j c hj)) $$ Hpay
  imod (Rounds.cell_close ER (rd m) (Set.mem_univ (K (dma j c))) id (duties_later m (dma j c))) $$ [Hat] with Hv
  · isplitr; · iapply (inv_dma m K j hj c); iexact HR
    iexact Hat
  iapply Hk
  isplitl [HO]; · iexists _; iexact HO
  isplitl [Hv] <;> iassumption

/-- Send 512 rows to device `e`: the head due is settled; the own send semaphore will hand the source back, the receiver's
    the rows written. -/
theorem send_step (j j' : Fin 19) (hj : j.val < 13) (hj' : j'.val < 13) (ha : amt j = NH) (ha' : amt j' = NH) (c e : Dev nD) (l : List (GSem nD τ sig × ℕ))
    {src dst : Memref sig .tc .hbm S512x4096 .f32} {hsc : dst.view.ref.isScScratch = false}
    {hsrc : src.view.WordExact} {hdst : dst.view.WordExact} {hsem : DmaTarget.Typed .hbm (.dma j') (.remote (e : Thread nD τ) dst (.dma j) hsc)}
    {q : PosShare TreeShare} {fs : Buf (Elt F) (src.view.loc (c : Thread nD τ))} {fd : Buf (Elt F) (dst.view.loc (e : Thread nD τ))}
    (hpay₁ : (src.view.loc (c : Thread nD τ) ↦[src.view.set]{q} fs) ⊢ dmaPay m c j)
    (hpay₂ : (dst.view.loc (e : Thread nD τ) ↦[dst.view.set]{fullShare} (dst.view.write (Elt F) fd (src.view.read (Elt F) fs) Finset.univ)) ⊢ dmaPay m e j')
    {α : Type} {Q : α → sProp 𝕄} {k : PUnit → Prog (TpuEff nD τ sig (Elt F) Λ₀ .tc) α} :
    iprop(records m K ∗ owing c ((dma j' e, NH) :: l) ∗ (src.view.loc (c : Thread nD τ) ↦[src.view.set]{q} fs) ∗ (dst.view.loc (e : Thread nD τ) ↦[dst.view.set]{fullShare} fd)
        ∗ dutyTok ER (dma j c) 0 false ∗ reached ER (dma j c) 0 ∗ dutyTok ER (dma j' e) 0 false ∗ reached ER (dma j' e) 0
        ∗ ((owing c l ∗ cred (tallyAt (dma j c) () (amt j))) -∗ wp frame (wpE (defs₀ (F := F)) 𝒱₀ c none) Set.univ (k ⟨⟩) Q))
      ⊢ wp frame (wpE (defs₀ (F := F)) 𝒱₀ c none) Set.univ (.op (.enqueueDma src (.remote (e : Thread nD τ) dst (.dma j) hsc) (.dma j') hsrc hdst hsem) k) Q := by
  unfold owing
  iintro ⟨#HR, ⟨%W, HO⟩, Hs, Hd, Ht, #Hr, Ht', #Hr', Hk⟩
  iapply (Rounds.wp_send_pointsTo 𝒱₀ ER (rd m) (c : Thread nD τ) none (c' := (e : Thread nD τ)) (src := src) (dst := dst)
      (sS := .dma j) (sem := .dma j') (q := q) (fs := fs) (κ₁ := K (dma j c)) (κ₂ := K (dma j' e))
      (r₁ := 0) (r₂ := 0) (d₁ := false) (d₂ := false) (fd := fd)
      (by rw [duties_dma m j c hj]; exact Finset.mem_singleton_self _) (by rw [duties_dma m j' e hj']; exact Finset.mem_singleton_self _)
      () () NH rfl ha ha' (owe l) rfl (W := W) hpay₁ hpay₂) $$ [Hs Hd HO Ht Ht']
  · isplitr; · iapply (inv_dma m K j hj c); iexact HR
    isplitr; · iapply (inv_dma m K j' hj' e); iexact HR
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  rw [ha]; iexact Hc

end Cert.KernelIdeal.Talk

end
-- ==== Proof.KernelIdeal.Exchange.lean ====
/-
  The first call on one device: it tells both neighbours where their blocks may land, copies its own block, sends each half
  to either side, and waits for everything it started and everything it is sent.
-/
module

public import proofs.«01_k».proof.Proof.KernelIdeal.Schedule
public import proofs.«01_k».proof.Proof.Gen.KernelIdeal.Points

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} (m : (ℓ : Loc nD τ sig) → Buf (Elt F) ℓ)

local notation "𝕄" => MT nD τ sig Unit (Elt F) ℕ UU ℕ

/-! ## The printed addresses, in the protocol's names -/

theorem k0_left1 (c : Dev nD) : (⟨k0_dev1 c, k0_dev1_lt c⟩ : Dev nD) = lf c := Fin.ext (k0_dev1_eq c)
theorem k0_right2 (c : Dev nD) : (⟨k0_dev2 c, k0_dev2_lt c⟩ : Dev nD) = rt c := Fin.ext (k0_dev2_eq c)
theorem k0_right3 (c : Dev nD) : (⟨k0_dev3 c, k0_dev3_lt c⟩ : Dev nD) = rt c := Fin.ext (k0_dev3_eq c)
theorem k0_right4 (c : Dev nD) : (⟨k0_dev4 c, k0_dev4_lt c⟩ : Dev nD) = rt c := Fin.ext (k0_dev4_eq c)
theorem k0_left5 (c : Dev nD) : (⟨k0_dev5 c, k0_dev5_lt c⟩ : Dev nD) = lf c := Fin.ext (k0_dev5_eq c)
theorem k0_left6 (c : Dev nD) : (⟨k0_dev6 c, k0_dev6_lt c⟩ : Dev nD) = lf c := Fin.ext (k0_dev6_eq c)

theorem off_lo (c : Dev nD) : k0_off1 c 0#32 = ![1024 * c.val + 512 * (0 : Fin 2).val, 0] := k0_off1_eq c 0
theorem off_hi (c : Dev nD) : k0_off1 c 512#32 = ![1024 * c.val + 512 * (1 : Fin 2).val, 0] := k0_off1_eq c 1
theorem off_own (c : Dev nD) : k0_off2 c = ![1024 * c.val, 0] := k0_off2_eq c

theorem sem_copy : (cc0_scratch0 : DmaSems sig S_).sem = (0 : Fin 19) := rfl
theorem sem_send0 : ((cc0_scratch1.slice (Rect.unit (s := S4) ![0] ![1] inb_S4_S1_0)).squeeze S_ squeezes_S1_S_).sem = (1 : Fin 19) := rfl
theorem sem_send1 : ((cc0_scratch1.slice (Rect.unit (s := S4) ![1] ![1] inb_S4_S1_1)).squeeze S_ squeezes_S1_S_).sem = (2 : Fin 19) := rfl
theorem sem_send2 : ((cc0_scratch1.slice (Rect.unit (s := S4) ![2] ![1] inb_S4_S1_2)).squeeze S_ squeezes_S1_S_).sem = (3 : Fin 19) := rfl
theorem sem_send3 : ((cc0_scratch1.slice (Rect.unit (s := S4) ![3] ![1] inb_S4_S1_3)).squeeze S_ squeezes_S1_S_).sem = (4 : Fin 19) := rfl
theorem sem_recv0 : ((cc0_scratch2.slice (Rect.unit (s := S4) ![0] ![1] inb_S4_S1_0)).squeeze S_ squeezes_S1_S_).sem = (5 : Fin 19) := rfl
theorem sem_recv1 : ((cc0_scratch2.slice (Rect.unit (s := S4) ![1] ![1] inb_S4_S1_1)).squeeze S_ squeezes_S1_S_).sem = (6 : Fin 19) := rfl
theorem sem_recv2 : ((cc0_scratch2.slice (Rect.unit (s := S4) ![2] ![1] inb_S4_S1_2)).squeeze S_ squeezes_S1_S_).sem = (7 : Fin 19) := rfl
theorem sem_recv3 : ((cc0_scratch2.slice (Rect.unit (s := S4) ![3] ![1] inb_S4_S1_3)).squeeze S_ squeezes_S1_S_).sem = (8 : Fin 19) := rfl

theorem credit_x (off : Fin 2 → Nat) (inb) : (xM.slice (Rect.unit (s := S1024x4096) off S512x4096.size inb) (fun _ => rfl)).view.dmaCredit = NH := rfl
theorem credit_g (off : Fin 2 → Nat) (inb) : (gM.slice (Rect.unit (s := S4096x4096) off S512x4096.size inb) (fun _ => rfl)).view.dmaCredit = NH := rfl
theorem credit_c (off : Fin 2 → Nat) (inb) : (gM.slice (Rect.unit (s := S4096x4096) off S1024x4096.size inb) (fun _ => rfl)).view.dmaCredit = NC := rfl
theorem amt_copy : amt 0 = NC := if_pos rfl
theorem amt_half {j : Fin 19} (h : j.val ≠ 0) : amt j = NH := if_neg h

/-! ## Rows held, in the instructions' views -/

/-- A 512-row view of the block, at its half's rows. -/
theorem x_view (c : Dev nD) (h : Fin 2) (off : Fin 2 → Nat) (inb) (hoff : off = ![512 * h.val, 0]) (q : PosShare TreeShare) :
    (((xM.slice (Rect.unit (s := S1024x4096) off S512x4096.size inb) (fun _ => rfl)).view.loc (c : Thread nD τ)
      ↦[(xM.slice (Rect.unit (s := S1024x4096) off S512x4096.size inb) (fun _ => rfl)).view.set]{q} xOf m c) : sProp 𝕄) = xPt m c (xrows h) q := by
  rw [slice_x h off inb hoff]

/-- A 512-row view of the gathered array, at its half chunk's rows. -/
theorem g_view (e k : Dev nD) (h : Fin 2) (off : Fin 2 → Nat) (inb) (hoff : off = ![1024 * k.val + 512 * h.val, 0]) (f : S4096x4096.Idx → Elt F .f32) :
    (((gM.slice (Rect.unit (s := S4096x4096) off S512x4096.size inb) (fun _ => rfl)).view.loc (e : Thread nD τ)
      ↦[(gM.slice (Rect.unit (s := S4096x4096) off S512x4096.size inb) (fun _ => rfl)).view.set]{fullShare} f) : sProp 𝕄) = gPt e (rows k h) f := by
  rw [slice_set k h off inb hoff]

/-- A 1024-row view of the gathered array, at its chunk's rows. -/
theorem chunk_view (e k : Dev nD) (off : Fin 2 → Nat) (inb) (hoff : off = ![1024 * k.val, 0]) (f : S4096x4096.Idx → Elt F .f32) :
    (((gM.slice (Rect.unit (s := S4096x4096) off S1024x4096.size inb) (fun _ => rfl)).view.loc (e : Thread nD τ)
      ↦[(gM.slice (Rect.unit (s := S4096x4096) off S1024x4096.size inb) (fun _ => rfl)).view.set]{fullShare} f) : sProp 𝕄) = gPt e (chunk k) f := by
  rw [slice_chunk k off inb hoff]

/-- The receiver holds the gathered array's rows once a half block has landed on them. -/
theorem landed_view (e k : Dev nD) (h : Fin 2) (off off' : Fin 2 → Nat) (inb) (inb') (hoff : off = ![1024 * k.val + 512 * h.val, 0])
    (hoff' : off' = ![512 * h.val, 0]) (fd : S4096x4096.Idx → Elt F .f32) :
    (((gM.slice (Rect.unit (s := S4096x4096) off S512x4096.size inb) (fun _ => rfl)).view.loc (e : Thread nD τ)
      ↦[(gM.slice (Rect.unit (s := S4096x4096) off S512x4096.size inb) (fun _ => rfl)).view.set]{fullShare}
        ((gM.slice (Rect.unit (s := S4096x4096) off S512x4096.size inb) (fun _ => rfl)).view.write (Elt F) fd
          ((xM.slice (Rect.unit (s := S1024x4096) off' S512x4096.size inb') (fun _ => rfl)).view.read (Elt F) (xOf m k)) Finset.univ)) : sProp 𝕄)
      = gPt e (rows k h) (gX m) :=
  (g_view e k h off inb hoff _).trans (pointsTo_congr fun i hi => landed m k h off off' inb inb' hoff hoff' fd i hi)

/-- The device's own chunk once the local copy is through. -/
theorem copied_view (c : Dev nD) (off : Fin 2 → Nat) (inb) (hoff : off = ![1024 * c.val, 0]) (fd : S4096x4096.Idx → Elt F .f32) :
    (((gM.slice (Rect.unit (s := S4096x4096) off S1024x4096.size inb) (fun _ => rfl)).view.loc (c : Thread nD τ)
      ↦[(gM.slice (Rect.unit (s := S4096x4096) off S1024x4096.size inb) (fun _ => rfl)).view.set]{fullShare}
        ((gM.slice (Rect.unit (s := S4096x4096) off S1024x4096.size inb) (fun _ => rfl)).view.write (Elt F) fd (xM.view.read (Elt F) (xOf m c)) Finset.univ)) : sProp 𝕄)
      = gPt c (chunk c) (gX m) :=
  (chunk_view c c off inb hoff _).trans (pointsTo_congr fun i hi => copied m c off inb hoff fd i hi)

/-! ## Splitting and joining what a device holds -/

theorem same {P Q : sProp 𝕄} (h : P ⊣⊢ Q) : P = Q := equiv_iff.mp ⟨h.1, h.2⟩

/-- The gathered array is its four chunks, the three that come from others by halves. -/
theorem g_split (c : Dev nD) (f : S4096x4096.Idx → Elt F .f32) :
    (gPt c Finset.univ f : sProp 𝕄) = iprop(gPt c (chunk c) f ∗ (gPt c (rows (lf c) 0) f ∗ gPt c (rows (lf c) 1) f)
      ∗ (gPt c (rows (rt c) 0) f ∗ gPt c (rows (rt c) 1) f) ∗ gPt c (rows (opp c) 0) f ∗ gPt c (rows (opp c) 1) f) := by
  have hu : ∀ A B : Finset S4096x4096.Idx, Disjoint A B → (gPt c (A ∪ B) f : sProp 𝕄) = iprop(gPt c A f ∗ gPt c B f) := fun A B h =>
    same (pointsTo_union h)
  have hl : ∀ k : Dev nD, (gPt c (chunk k) f : sProp 𝕄) = iprop(gPt c (rows k 0) f ∗ gPt c (rows k 1) f) := fun k => by
    rw [chunk_halves]; exact hu _ _ (rows_disjoint fun e => absurd (congrArg Prod.snd e) (by decide : (0 : Fin 2) ≠ 1))
  have h1 : ∀ c : Dev nD, c ≠ lf c ∧ c ≠ rt c ∧ c ≠ opp c ∧ lf c ≠ rt c ∧ lf c ≠ opp c ∧ rt c ≠ opp c := by decide
  obtain ⟨a1, a2, a3, a4, a5, a6⟩ := h1 c
  rw [all_chunks c, ← hl (lf c), ← hl (rt c), ← hl (opp c),
    hu _ _ (Finset.disjoint_union_right.mpr ⟨chunk_disjoint a1, Finset.disjoint_union_right.mpr ⟨chunk_disjoint a2, chunk_disjoint a3⟩⟩),
    hu _ _ (Finset.disjoint_union_right.mpr ⟨chunk_disjoint a4, chunk_disjoint a5⟩), hu _ _ (chunk_disjoint a6)]

/-- The block, by who reads it. -/
theorem x_split (c : Dev nD) : (xPt m c Finset.univ fullShare : sProp 𝕄)
    = iprop(xPt m c Finset.univ qC ∗ (xPt m c (xrows 0) qR ∗ xPt m c (xrows 1) qR) ∗ xPt m c (xrows 0) qL ∗ xPt m c (xrows 1) qL) := by
  have hu : ∀ q, (xPt m c Finset.univ q : sProp 𝕄) = iprop(xPt m c (xrows 0) q ∗ xPt m c (xrows 1) q) := fun q => by
    rw [x_halves]; exact same (pointsTo_union x_disjoint)
  have hs : ∀ q : PosShare TreeShare, (xPt m c Finset.univ q : sProp 𝕄) = iprop(xPt m c Finset.univ q.left ∗ xPt m c Finset.univ q.right) := fun q =>
    same (pointsTo_share (PosShare.mem_left_op_right q))
  rw [← hu, ← hu, hs fullShare, hs fullShare.right]

/-- What device `c`'s gathered array holds after the first call: everything but the opposite chunk, which stays as it was. -/
def g1 (c : Dev nD) : S4096x4096.Idx → Elt F .f32 := fun i =>
  if (i 0).val / 1024 = (opp c).val then m ((c : Thread nD τ).loc main_v1) i else gX m i

theorem g1_opp (c : Dev nD) (h : Fin 2) : (gPt c (rows (opp c) h) (g1 m c) : sProp 𝕄) = gPt c (rows (opp c) h) (m ((c : Thread nD τ).loc main_v1)) :=
  pointsTo_congr fun i hi => if_pos (by rw [mem_rows] at hi; have : h.val < 2 := h.isLt; omega)
theorem g1_rows (c k : Dev nD) (hk : k ≠ opp c) (h : Fin 2) : (gPt c (rows k h) (g1 m c) : sProp 𝕄) = gPt c (rows k h) (gX m) :=
  pointsTo_congr fun i hi => if_neg fun e => hk (Fin.ext (by rw [mem_rows] at hi; have : h.val < 2 := h.isLt; omega))
theorem g1_chunk (c : Dev nD) : (gPt c (chunk c) (g1 m c) : sProp 𝕄) = gPt c (chunk c) (gX m) :=
  pointsTo_congr fun i hi => if_neg fun e => (by decide : ∀ c : Dev nD, c ≠ opp c) c (Fin.ext (by rw [mem_chunk] at hi; omega))

/-! ## The call -/

/-- What device `c` gives the left neighbour at the barrier, -/
theorem pay_left (c : Dev nD) : (barPay (lf c) 0 true : sProp 𝕄)
    = iprop((gAny c (rows (lf c) 0) ∗ gAny c (rows (lf c) 1)) ∗ reached ER (dma 5 c) 0 ∗ reached ER (dma 6 c) 0) := by
  show iprop((gAny (rt (lf c)) (rows (lf c) 0) ∗ gAny (rt (lf c)) (rows (lf c) 1)) ∗ reached ER (dma 5 (rt (lf c))) 0 ∗ reached ER (dma 6 (rt (lf c))) 0) = _
  rw [rt_lf]
/-- what it gives the right one, -/
theorem pay_right (c : Dev nD) : (barPay (rt c) 0 false : sProp 𝕄)
    = iprop((gAny c (rows (rt c) 0) ∗ gAny c (rows (rt c) 1)) ∗ reached ER (dma 8 c) 0 ∗ reached ER (dma 7 c) 0) := by
  show iprop((gAny (lf (rt c)) (rows (rt c) 0) ∗ gAny (lf (rt c)) (rows (rt c) 1)) ∗ reached ER (dma 8 (lf (rt c))) 0 ∗ reached ER (dma 7 (lf (rt c))) 0) = _
  rw [lf_rt]
/-- and what it gets from either. -/
theorem got_right (c : Dev nD) : (barPay c 0 true : sProp 𝕄)
    = iprop((gAny (rt c) (rows c 0) ∗ gAny (rt c) (rows c 1)) ∗ reached ER (dma 5 (rt c)) 0 ∗ reached ER (dma 6 (rt c)) 0) := rfl
theorem got_left (c : Dev nD) : (barPay c 0 false : sProp 𝕄)
    = iprop((gAny (lf c) (rows c 0) ∗ gAny (lf c) (rows c 1)) ∗ reached ER (dma 8 (lf c)) 0 ∗ reached ER (dma 7 (lf c)) 0) := rfl

/-! What each transfer semaphore of the call hands over. -/
theorem pay_0 (c : Dev nD) : dmaPay (F := F) m c 0 = iprop(gPt c (chunk c) (gX m) ∗ xPt m c Finset.univ qC) := rfl
theorem pay_1 (c : Dev nD) : dmaPay (F := F) m c 1 = xPt m c (xrows 0) qR := rfl
theorem pay_2 (c : Dev nD) : dmaPay (F := F) m c 2 = xPt m c (xrows 1) qR := rfl
theorem pay_3 (c : Dev nD) : dmaPay (F := F) m c 3 = xPt m c (xrows 1) qL := rfl
theorem pay_4 (c : Dev nD) : dmaPay (F := F) m c 4 = xPt m c (xrows 0) qL := rfl
theorem pay_5 (c : Dev nD) : dmaPay (F := F) m c 5 = gPt c (rows (lf c) 0) (gX m) := rfl
theorem pay_6 (c : Dev nD) : dmaPay (F := F) m c 6 = gPt c (rows (lf c) 1) (gX m) := rfl
theorem pay_7 (c : Dev nD) : dmaPay (F := F) m c 7 = gPt c (rows (rt c) 1) (gX m) := rfl
theorem pay_8 (c : Dev nD) : dmaPay (F := F) m c 8 = gPt c (rows (rt c) 0) (gX m) := rfl

/-- A transfer semaphore just opened. -/
def fresh (j : Fin 19) (c : Dev nD) : sProp 𝕄 := iprop(atPos ER (dma j c) 0 ∅ 0 ∗ reached ER (dma j c) 0)
/-- The single duty of a transfer semaphore. -/
abbrev tok (j : Fin 19) (c : Dev nD) : sProp 𝕄 := dutyTok ER (dma j c) 0 false

/-- What device `c` pays with in the first call: the duties it holds on its neighbours' cells and on its own, -/
def toks0 (c : Dev nD) : sProp 𝕄 :=
  iprop(dutyTok ER (bar 0 (lf c)) 0 true ∗ dutyTok ER (bar 0 (rt c)) 0 false ∗ tok 0 c ∗ tok 1 c ∗ tok 2 c ∗ tok 3 c ∗ tok 4 c
    ∗ tok 5 (rt c) ∗ tok 6 (rt c) ∗ tok 7 (lf c) ∗ tok 8 (lf c))
/-- and what it waits on others for. -/
def creds0 (c : Dev nD) : sProp 𝕄 :=
  iprop(cred (tallyAt (bar 0 c) () 2) ∗ cred (tallyAt (dma 5 c) () (amt 5)) ∗ cred (tallyAt (dma 6 c) () (amt 6))
    ∗ cred (tallyAt (dma 7 c) () (amt 7)) ∗ cred (tallyAt (dma 8 c) () (amt 8)))
/-- Its transfer semaphores for the call, just opened, -/
def fresh0 (c : Dev nD) : sProp 𝕄 :=
  iprop(fresh 0 c ∗ fresh 1 c ∗ fresh 2 c ∗ fresh 3 c ∗ fresh 4 c ∗ fresh 5 c ∗ fresh 6 c ∗ fresh 7 c ∗ fresh 8 c)
/-- and back at zero. -/
def zero0 (c : Dev nD) : sProp 𝕄 :=
  iprop(semVal (dma 0 c) 0 ∗ semVal (dma 1 c) 0 ∗ semVal (dma 2 c) 0 ∗ semVal (dma 3 c) 0 ∗ semVal (dma 4 c) 0 ∗ semVal (dma 5 c) 0
    ∗ semVal (dma 6 c) 0 ∗ semVal (dma 7 c) 0 ∗ semVal (dma 8 c) 0)

theorem above0 (c : Dev nD) (n : ℕ) (h : n < 3) : Above n (dues1 c) := by
  intro p hp
  simp only [dues1, List.mem_cons, List.not_mem_nil, or_false] at hp
  rcases hp with rfl | rfl | rfl | rfl <;> refine ⟨rfl, ?_⟩ <;> dsimp only [lvl] <;> (first | (show n < 3; omega) | (show n < 4; omega))

theorem aboveB (c : Dev nD) : Above (lvl (.reg (0 : Fin 2))) ([(dma 5 (rt c), NH), (dma 6 (rt c), NH), (dma 7 (lf c), NH), (dma 8 (lf c), NH)] ++ dues1 c) := by
  intro p hp
  rcases List.mem_append.mp hp with hp | hp
  · simp only [List.mem_cons, List.not_mem_nil, or_false] at hp
    rcases hp with rfl | rfl | rfl | rfl <;> refine ⟨rfl, ?_⟩ <;> (show 1 < 2; decide)
  · exact above0 c 1 (by decide) p hp

variable [FloatOps F] (K : GSem nD τ sig → ℕ)

/-- Half `h` of the block sent to neighbour `e`, over the same half of chunk `c` of its gathered array. -/
theorem send_x (j j' : Fin 19) (hj : j.val < 13 ∧ j.val ≠ 0) (hj' : j'.val < 13 ∧ j'.val ≠ 0) (c n e : Dev nD) (hn : n = e) (h : Fin 2) (q : PosShare TreeShare)
    (l : List (GSem nD τ sig × ℕ)) (hp : dmaPay (F := F) m c j = xPt m c (xrows h) q) (hp' : dmaPay (F := F) m e j' = gPt e (rows c h) (gX m))
    {off off' : Fin 2 → Nat} {inb inb'} (hoff : off = ![1024 * c.val + 512 * h.val, 0]) (hoff' : off' = ![512 * h.val, 0])
    {hsc hsrc hdst hsem} {α : Type} {Q : α → sProp 𝕄} {k : PUnit → Prog (TpuEff nD τ sig (Elt F) Λ₀ .tc) α} :
    iprop(records m K ∗ owing c ((dma j' e, NH) :: l) ∗ xPt m c (xrows h) q ∗ gAny e (rows c h)
        ∗ tok j c ∗ reached ER (dma j c) 0 ∗ tok j' e ∗ reached ER (dma j' e) 0
        ∗ ((owing c l ∗ cred (tallyAt (dma j c) () (amt j))) -∗ wp frame (wpE (defs₀ (F := F)) 𝒱₀ c none) Set.univ (k ⟨⟩) Q))
      ⊢ wp frame (wpE (defs₀ (F := F)) 𝒱₀ c none) Set.univ (.op (.enqueueDma (xM.slice (Rect.unit (s := S1024x4096) off' S512x4096.size inb') (fun _ => rfl))
          (.remote (Dev.tc n : Thread nD τ) (gM.slice (Rect.unit (s := S4096x4096) off S512x4096.size inb) (fun _ => rfl)) (.dma j) hsc) (.dma j') hsrc hdst hsem) k) Q := by
  subst hn
  unfold gAny
  iintro ⟨#HR, HO, HX, ⟨%fd, HG⟩, T, #R, T', #R', Hk⟩
  iapply (send_step m K j j' hj.1 hj'.1 (amt_half hj.2) (amt_half hj'.2) c n l
    (src := xM.slice (Rect.unit (s := S1024x4096) off' S512x4096.size inb') (fun _ => rfl))
    (dst := gM.slice (Rect.unit (s := S4096x4096) off S512x4096.size inb) (fun _ => rfl)) (hsc := hsc) (hsrc := hsrc) (hdst := hdst) (hsem := hsem) (q := q) (fs := xOf m c) (fd := fd)
    (Entails.of_eq ((x_view m c h off' inb' hoff' q).trans hp.symm))
    (Entails.of_eq ((landed_view m n c h off off' inb inb' hoff hoff' fd).trans hp'.symm)))
  isplitr; · iexact HR
  isplitl [HO]; · iexact HO
  isplitl [HX]; · iapply (Entails.of_eq (x_view m c h off' inb' hoff' q).symm); iexact HX
  isplitl [HG]; · iapply (Entails.of_eq (g_view n c h off inb hoff fd).symm); iexact HG
  isplitl [T]; · iexact T
  isplitr; · iexact R
  isplitl [T']; · iexact T'
  isplitr; · iexact R'
  iexact Hk

/-- The whole block copied over the device's own chunk of its gathered array. -/
theorem copy_x (c : Dev nD) {off : Fin 2 → Nat} {inb} (hoff : off = ![1024 * c.val, 0]) (fd : S4096x4096.Idx → Elt F .f32)
    {hsrc hdst hsem} {α : Type} {Q : α → sProp 𝕄} {k : PUnit → Prog (TpuEff nD τ sig (Elt F) Λ₀ .tc) α} :
    iprop(records m K ∗ xPt m c Finset.univ qC ∗ gPt c (chunk c) fd ∗ tok 0 c ∗ reached ER (dma 0 c) 0
        ∗ (cred (tallyAt (dma 0 c) () (amt 0)) -∗ wp frame (wpE (defs₀ (F := F)) 𝒱₀ c none) Set.univ (k ⟨⟩) Q))
      ⊢ wp frame (wpE (defs₀ (F := F)) 𝒱₀ c none) Set.univ (.op (.enqueueDma xM
          (.here (gM.slice (Rect.unit (s := S4096x4096) off S1024x4096.size inb) (fun _ => rfl))) (.dma (0 : Fin 19)) hsrc hdst hsem) k) Q := by
  have hx : ((xM.view.loc (c : Thread nD τ) ↦[xM.view.set]{qC} xOf m c) : sProp 𝕄) = xPt m c Finset.univ qC :=
    congrArg (fun I => (xM.view.loc (c : Thread nD τ) ↦[I]{qC} xOf m c : sProp 𝕄)) (View.set_whole _)
  iintro ⟨#HR, HX, HG, T, #R, Hk⟩
  iapply (Rounds.wp_copy_pointsTo 𝒱₀ ER (rd m) (c : Thread nD τ) none (src := xM)
      (dst := gM.slice (Rect.unit (s := S4096x4096) off S1024x4096.size inb) (fun _ => rfl)) (hsrc := hsrc) (hdst := hdst) (hsem := hsem)
      (sem := .dma (0 : Fin 19)) (q := qC) (fs := xOf m c) (fd := fd) (r := 0) (d := false) (κ := K (dma 0 c))
      (by rw [duties_dma m 0 c (by decide)]; exact Finset.mem_singleton_self _) () (amt 0) ((credit_c _ _).trans amt_copy.symm) rfl
      (Idealize.SL.BI.Laws.sep_mono (Entails.of_eq (copied_view m c off inb hoff fd)) (Entails.of_eq hx))) $$ [HX HG T]
  · isplitr; · iapply (inv_dma m K 0 (by decide) c); iexact HR
    isplitl [HX]; · iapply (Entails.of_eq hx.symm); iexact HX
    isplitl [HG]; · iapply (Entails.of_eq (chunk_view c c off inb hoff fd).symm); iexact HG
    isplitl [T]; · iexact T
    iexact R
  iexact Hk

set_option maxHeartbeats 4000000 in
/-- The first call: from the launch contents to the gathered array but for the opposite chunk. -/
theorem exchange_run (c : Dev nD) (t : Fin cfg0.N) (Q : PUnit → sProp 𝕄) :
    iprop((records m K ∗ levAts L lv) ∗ (owing c (dues0 c ++ dues1 c) ∗ toks0 c ∗ creds0 c ∗ atPos ER (bar 0 c) 0 ∅ 0 ∗ fresh0 c)
        ∗ xPt m c Finset.univ fullShare ∗ gPt c Finset.univ (m ((c : Thread nD τ).loc main_v1))
        ∗ ((owing c (dues1 c) ∗ (semVal (bar 0 c) 0 ∗ zero0 c) ∗ xPt m c Finset.univ fullShare ∗ gPt c Finset.univ (g1 m c)) -∗ Q ⟨⟩))
      ⊢ wp frame (wpE (defs₀ (F := F)) 𝒱₀ c none) Set.univ (bodyAt0 (F := F) t) Q := by
  rw [x_split, g_split, g_split c (g1 m c), g1_chunk, g1_opp, g1_opp]
  have n1 : ∀ c : Dev nD, lf c ≠ opp c ∧ rt c ≠ opp c := by decide
  rw [g1_rows m c (lf c) (n1 c).1, g1_rows m c (lf c) (n1 c).1, g1_rows m c (rt c) (n1 c).2, g1_rows m c (rt c) (n1 c).2]
  unfold bodyAt0
  simp only [cc0__exchange_body_eq_skeleton]; unfold cc0__exchange_body_skel
  simp only [k0_part1_eq_skeleton, k0_part2_eq_skeleton, k0_part3_eq_skeleton]; unfold k0_part1_skel k0_part2_skel k0_part3_skel
  simp only [semSignalWord, semWaitWord, Prog.lift, Prog.bind_op, Prog.bind_ret, Prog.pure_eq_ret, Prog.bind_assoc, wp_deviceId]
  simp only [sem_copy, sem_send0, sem_send1, sem_send2, sem_send3, sem_recv0, sem_recv1, sem_recv2, sem_recv3]
  simp only [k0_left1, k0_right2]
  unfold toks0 creds0 fresh0 zero0 fresh
  iintro ⟨⟨#HR, #Hlev⟩, ⟨HO, ⟨TbL, TbR, T0, T1, T2, T3, T4, T5, T6, T7, T8⟩, ⟨CB, C5, C6, C7, C8⟩, PB,
    ⟨P0, #R0⟩, ⟨P1, #R1⟩, ⟨P2, #R2⟩, ⟨P3, #R3⟩, ⟨P4, #R4⟩, ⟨P5, #R5⟩, ⟨P6, #R6⟩, ⟨P7, #R7⟩, ⟨P8, #R8⟩⟩,
    ⟨XC, ⟨XR0, XR1⟩, XL0, XL1⟩, ⟨GC, ⟨GL0, GL1⟩, ⟨GR0, GR1⟩, GO0, GO1⟩, Hk⟩
  unfold dues0
  -- to the left neighbour: where its own chunk may land here
  iapply (signal_step m K 0 c (lf c) true)
  isplitr; · iexact HR
  isplitl [HO]; · iexact HO
  isplitl [TbL]; · iexact TbL
  isplitl [GL0 GL1]
  · rw [pay_left]; unfold gAny
    isplitl [GL0 GL1]
    · isplitl [GL0]
      · iexists _; iexact GL0
      · iexists _; iexact GL1
    isplitr; · iexact R5
    iexact R6
  iintro HO
  -- to the right neighbour likewise
  iapply (signal_step m K 0 c (rt c) false)
  isplitr; · iexact HR
  isplitl [HO]; · iexact HO
  isplitl [TbR]; · iexact TbR
  isplitl [GR0 GR1]
  · rw [pay_right]; unfold gAny
    isplitl [GR0 GR1]
    · isplitl [GR0]
      · iexists _; iexact GR0
      · iexists _; iexact GR1
    isplitr; · iexact R8
    iexact R7
  iintro HO
  -- both neighbours are there
  iapply (barrier_step m K 0 c _ (aboveB c))
  isplitr; · iexact HR
  isplitr; · iexact Hlev
  isplitl [HO]; · iexact HO
  isplitl [CB]; · iexact CB
  isplitl [PB]; · iexact PB
  rw [got_right, got_left]
  iintro ⟨HO, HB, ⟨⟨DR0, DR1⟩, #Q5, #Q6⟩, ⟨⟨DL0, DL1⟩, #Q8, #Q7⟩⟩
  -- the four sends
  iapply (send_x m K 1 5 (by decide) (by decide) c _ (rt c) (k0_right3 c) 0 qR _ rfl
    (by show gPt (rt c) (rows (lf (rt c)) 0) (gX m) = _; rw [lf_rt]) (off_lo c) rfl)
  isplitr; · iexact HR
  isplitl [HO]; · iexact HO
  isplitl [XR0]; · iexact XR0
  isplitl [DR0]; · iexact DR0
  isplitl [T1]; · iexact T1
  isplitr; · iexact R1
  isplitl [T5]; · iexact T5
  isplitr; · iexact Q5
  iintro ⟨HO, C1⟩
  iapply (send_x m K 2 6 (by decide) (by decide) c _ (rt c) (k0_right4 c) 1 qR _ rfl
    (by show gPt (rt c) (rows (lf (rt c)) 1) (gX m) = _; rw [lf_rt]) (off_hi c) rfl)
  isplitr; · iexact HR
  isplitl [HO]; · iexact HO
  isplitl [XR1]; · iexact XR1
  isplitl [DR1]; · iexact DR1
  isplitl [T2]; · iexact T2
  isplitr; · iexact R2
  isplitl [T6]; · iexact T6
  isplitr; · iexact Q6
  iintro ⟨HO, C2⟩
  iapply (send_x m K 3 7 (by decide) (by decide) c _ (lf c) (k0_left5 c) 1 qL _ rfl
    (by show gPt (lf c) (rows (rt (lf c)) 1) (gX m) = _; rw [rt_lf]) (off_hi c) rfl)
  isplitr; · iexact HR
  isplitl [HO]; · iexact HO
  isplitl [XL1]; · iexact XL1
  isplitl [DL1]; · iexact DL1
  isplitl [T3]; · iexact T3
  isplitr; · iexact R3
  isplitl [T7]; · iexact T7
  isplitr; · iexact Q7
  iintro ⟨HO, C3⟩
  iapply (send_x m K 4 8 (by decide) (by decide) c _ (lf c) (k0_left6 c) 0 qL _ rfl
    (by show gPt (lf c) (rows (rt (lf c)) 0) (gX m) = _; rw [rt_lf]) (off_lo c) rfl)
  isplitr; · iexact HR
  isplitl [HO]; · iexact HO
  isplitl [XL0]; · iexact XL0
  isplitl [DL0]; · iexact DL0
  isplitl [T4]; · iexact T4
  isplitr; · iexact R4
  isplitl [T8]; · iexact T8
  isplitr; · iexact Q8
  iintro ⟨HO, C4⟩
  -- the local copy
  iapply (copy_x m K c (off_own c) (m ((c : Thread nD τ).loc main_v1)))
  isplitr; · iexact HR
  isplitl [XC]; · iexact XC
  isplitl [GC]; · iexact GC
  isplitl [T0]; · iexact T0
  isplitr; · iexact R0
  iintro C0
  -- everything that was started here is through
  iapply (wait_step m K 0 (by decide) c _ (above0 c 2 (by decide)) ((credit_c _ _).trans amt_copy.symm))
  isplitr; · iexact HR
  isplitr; · iexact Hlev
  isplitl [HO]; · iexact HO
  isplitl [C0]; · iexact C0
  isplitl [P0]; · iexact P0
  rw [pay_0]
  iintro ⟨HO, Z0, ⟨GC, XC⟩⟩
  iapply (wait_step m K 1 (by decide) c _ (above0 c 2 (by decide)) ((credit_x _ _).trans (amt_half (by decide)).symm))
  isplitr; · iexact HR
  isplitr; · iexact Hlev
  isplitl [HO]; · iexact HO
  isplitl [C1]; · iexact C1
  isplitl [P1]; · iexact P1
  rw [pay_1]
  iintro ⟨HO, Z1, XR0⟩
  iapply (wait_step m K 5 (by decide) c _ (above0 c 2 (by decide)) ((credit_g _ _).trans (amt_half (by decide)).symm))
  isplitr; · iexact HR
  isplitr; · iexact Hlev
  isplitl [HO]; · iexact HO
  isplitl [C5]; · iexact C5
  isplitl [P5]; · iexact P5
  rw [pay_5]
  iintro ⟨HO, Z5, GL0⟩
  iapply (wait_step m K 2 (by decide) c _ (above0 c 2 (by decide)) ((credit_x _ _).trans (amt_half (by decide)).symm))
  isplitr; · iexact HR
  isplitr; · iexact Hlev
  isplitl [HO]; · iexact HO
  isplitl [C2]; · iexact C2
  isplitl [P2]; · iexact P2
  rw [pay_2]
  iintro ⟨HO, Z2, XR1⟩
  iapply (wait_step m K 6 (by decide) c _ (above0 c 2 (by decide)) ((credit_g _ _).trans (amt_half (by decide)).symm))
  isplitr; · iexact HR
  isplitr; · iexact Hlev
  isplitl [HO]; · iexact HO
  isplitl [C6]; · iexact C6
  isplitl [P6]; · iexact P6
  rw [pay_6]
  iintro ⟨HO, Z6, GL1⟩
  iapply (wait_step m K 3 (by decide) c _ (above0 c 2 (by decide)) ((credit_x _ _).trans (amt_half (by decide)).symm))
  isplitr; · iexact HR
  isplitr; · iexact Hlev
  isplitl [HO]; · iexact HO
  isplitl [C3]; · iexact C3
  isplitl [P3]; · iexact P3
  rw [pay_3]
  iintro ⟨HO, Z3, XL1⟩
  iapply (wait_step m K 7 (by decide) c _ (above0 c 2 (by decide)) ((credit_g _ _).trans (amt_half (by decide)).symm))
  isplitr; · iexact HR
  isplitr; · iexact Hlev
  isplitl [HO]; · iexact HO
  isplitl [C7]; · iexact C7
  isplitl [P7]; · iexact P7
  rw [pay_7]
  iintro ⟨HO, Z7, GR1⟩
  iapply (wait_step m K 4 (by decide) c _ (above0 c 2 (by decide)) ((credit_x _ _).trans (amt_half (by decide)).symm))
  isplitr; · iexact HR
  isplitr; · iexact Hlev
  isplitl [HO]; · iexact HO
  isplitl [C4]; · iexact C4
  isplitl [P4]; · iexact P4
  rw [pay_4]
  iintro ⟨HO, Z4, XL0⟩
  iapply (wait_step m K 8 (by decide) c _ (above0 c 2 (by decide)) ((credit_g _ _).trans (amt_half (by decide)).symm))
  isplitr; · iexact HR
  isplitr; · iexact Hlev
  isplitl [HO]; · iexact HO
  isplitl [C8]; · iexact C8
  isplitl [P8]; · iexact P8
  rw [pay_8]
  iintro ⟨HO, Z8, GR0⟩
  rw [wp_ret]; imodintro
  iapply Hk
  isplitl [HO]; · iexact HO
  isplitl [HB Z0 Z1 Z2 Z3 Z4 Z5 Z6 Z7 Z8]
  · isplitl [HB]; · iexact HB
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    iexact Z8
  isplitl [XC XR0 XR1 XL0 XL1]
  · isplitl [XC]; · iexact XC
    isplitl [XR0 XR1]; · isplitl [XR0] <;> iassumption
    isplitl [XL0] <;> iassumption
  isplitl [GC]; · iexact GC
  isplitl [GL0 GL1]; · isplitl [GL0] <;> iassumption
  isplitl [GR0 GR1]; · isplitl [GR0] <;> iassumption
  isplitl [GO0] <;> iassumption

end Cert.KernelIdeal.Talk

end
-- ==== Proof.KernelIdeal.Forward.lean ====
/-
  The second call on one device: each device passes the lower half of its left neighbour's chunk on to the right and the
  upper half of its right neighbour's on to the left, so that both halves of the opposite chunk arrive.
-/
module

public import proofs.«01_k».proof.Proof.KernelIdeal.Exchange

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} (m : (ℓ : Loc nD τ sig) → Buf (Elt F) ℓ)

local notation "𝕄" => MT nD τ sig Unit (Elt F) ℕ UU ℕ

/-! ## The printed addresses, in the protocol's names -/

theorem k1_left1 (c : Dev nD) : (⟨k1_dev1 c, k1_dev1_lt c⟩ : Dev nD) = lf c := Fin.ext (k1_dev1_eq c)
theorem k1_right2 (c : Dev nD) : (⟨k1_dev2 c, k1_dev2_lt c⟩ : Dev nD) = rt c := Fin.ext (k1_dev2_eq c)
theorem k1_right3 (c : Dev nD) : (⟨k1_dev3 c, k1_dev3_lt c⟩ : Dev nD) = rt c := Fin.ext (k1_dev3_eq c)
theorem k1_left4 (c : Dev nD) : (⟨k1_dev4 c, k1_dev4_lt c⟩ : Dev nD) = lf c := Fin.ext (k1_dev4_eq c)

theorem off_left (c : Dev nD) : k1_off1 c = ![1024 * (lf c).val + 512 * (0 : Fin 2).val, 0] := k1_off1_eq c
theorem off_right (c : Dev nD) : k1_off2 c 1#32 = ![1024 * (rt c).val + 512 * (1 : Fin 2).val, 0] := k1_off2_eq c 0

theorem sem_fsend0 : ((cc1_scratch0.slice (Rect.unit (s := S2) ![0] ![1] inb_S2_S1_0)).squeeze S_ squeezes_S1_S_).sem = (9 : Fin 19) := rfl
theorem sem_fsend1 : ((cc1_scratch0.slice (Rect.unit (s := S2) ![1] ![1] inb_S2_S1_1)).squeeze S_ squeezes_S1_S_).sem = (10 : Fin 19) := rfl
theorem sem_frecv0 : ((cc1_scratch1.slice (Rect.unit (s := S2) ![0] ![1] inb_S2_S1_0)).squeeze S_ squeezes_S1_S_).sem = (11 : Fin 19) := rfl
theorem sem_frecv1 : ((cc1_scratch1.slice (Rect.unit (s := S2) ![1] ![1] inb_S2_S1_1)).squeeze S_ squeezes_S1_S_).sem = (12 : Fin 19) := rfl

theorem opp_rt : ∀ c : Dev nD, opp (rt c) = lf c := by decide
theorem opp_lf : ∀ c : Dev nD, opp (lf c) = rt c := by decide

/-! ## What the call hands over -/

/-- To the left neighbour goes the place for the lower half of the opposite chunk, -/
theorem fpay_left (c : Dev nD) : (barPay (lf c) 1 true : sProp 𝕄) = iprop(gAny c (rows (opp c) 0) ∗ reached ER (dma 11 c) 0) := by
  show iprop(gAny (rt (lf c)) (rows (lf (lf c)) 0) ∗ reached ER (dma 11 (rt (lf c))) 0) = _
  rw [rt_lf, lf_lf]
/-- to the right one that for the upper half. -/
theorem fpay_right (c : Dev nD) : (barPay (rt c) 1 false : sProp 𝕄) = iprop(gAny c (rows (opp c) 1) ∗ reached ER (dma 12 c) 0) := by
  show iprop(gAny (lf (rt c)) (rows (rt (rt c)) 1) ∗ reached ER (dma 12 (lf (rt c))) 0) = _
  rw [lf_rt, rt_rt]
theorem fgot_right (c : Dev nD) : (barPay c 1 true : sProp 𝕄) = iprop(gAny (rt c) (rows (lf c) 0) ∗ reached ER (dma 11 (rt c)) 0) := rfl
theorem fgot_left (c : Dev nD) : (barPay c 1 false : sProp 𝕄) = iprop(gAny (lf c) (rows (rt c) 1) ∗ reached ER (dma 12 (lf c)) 0) := rfl

theorem pay_9 (c : Dev nD) : dmaPay (F := F) m c 9 = gPt c (rows (lf c) 0) (gX m) := rfl
theorem pay_10 (c : Dev nD) : dmaPay (F := F) m c 10 = gPt c (rows (rt c) 1) (gX m) := rfl
theorem pay_11 (c : Dev nD) : dmaPay (F := F) m c 11 = gPt c (rows (opp c) 0) (gX m) := rfl
theorem pay_12 (c : Dev nD) : dmaPay (F := F) m c 12 = gPt c (rows (opp c) 1) (gX m) := rfl

/-- The receiver holds the gathered array's rows once a half chunk has been passed on to it. -/
theorem forwarded_view (e k : Dev nD) (h : Fin 2) (off : Fin 2 → Nat) (inb) (hoff : off = ![1024 * k.val + 512 * h.val, 0]) (fd : S4096x4096.Idx → Elt F .f32) :
    (((gM.slice (Rect.unit (s := S4096x4096) off S512x4096.size inb) (fun _ => rfl)).view.loc (e : Thread nD τ)
      ↦[(gM.slice (Rect.unit (s := S4096x4096) off S512x4096.size inb) (fun _ => rfl)).view.set]{fullShare}
        ((gM.slice (Rect.unit (s := S4096x4096) off S512x4096.size inb) (fun _ => rfl)).view.write (Elt F) fd
          ((gM.slice (Rect.unit (s := S4096x4096) off S512x4096.size inb) (fun _ => rfl)).view.read (Elt F) (gX m)) Finset.univ)) : sProp 𝕄)
      = gPt e (rows k h) (gX m) :=
  (g_view e k h off inb hoff _).trans (pointsTo_congr fun i hi => forwarded k h off inb hoff fd (gX m) i hi)

/-! ## The call -/

/-- What device `c` pays with in the second call, -/
def toks1 (c : Dev nD) : sProp 𝕄 :=
  iprop(dutyTok ER (bar 1 (lf c)) 0 true ∗ dutyTok ER (bar 1 (rt c)) 0 false ∗ tok 9 c ∗ tok 10 c ∗ tok 11 (rt c) ∗ tok 12 (lf c))
/-- what it waits on others for, -/
def creds1 (c : Dev nD) : sProp 𝕄 :=
  iprop(cred (tallyAt (bar 1 c) () 2) ∗ cred (tallyAt (dma 11 c) () (amt 11)) ∗ cred (tallyAt (dma 12 c) () (amt 12)))
/-- its transfer semaphores for the call, just opened, -/
def fresh1 (c : Dev nD) : sProp 𝕄 := iprop(fresh 9 c ∗ fresh 10 c ∗ fresh 11 c ∗ fresh 12 c)
/-- and back at zero. -/
def zero1 (c : Dev nD) : sProp 𝕄 := iprop(semVal (dma 9 c) 0 ∗ semVal (dma 10 c) 0 ∗ semVal (dma 11 c) 0 ∗ semVal (dma 12 c) 0)

theorem above_nil (n : ℕ) : Above n [] := fun _ h => absurd h List.not_mem_nil

theorem aboveF (c : Dev nD) : Above (lvl (.reg (1 : Fin 2))) [(dma 11 (rt c), NH), (dma 12 (lf c), NH)] := by
  intro p hp
  simp only [List.mem_cons, List.not_mem_nil, or_false] at hp
  rcases hp with rfl | rfl <;> refine ⟨rfl, ?_⟩ <;> (show 3 < 4; decide)

variable [FloatOps F] (K : GSem nD τ sig → ℕ)

/-- A half chunk of the gathered array passed on to neighbour `e`, over the same rows of its own. -/
theorem send_g (j j' : Fin 19) (hj : j.val < 13 ∧ j.val ≠ 0) (hj' : j'.val < 13 ∧ j'.val ≠ 0) (c n e k : Dev nD) (hn : n = e) (h : Fin 2)
    (l : List (GSem nD τ sig × ℕ)) (hp : dmaPay (F := F) m c j = gPt c (rows k h) (gX m)) (hp' : dmaPay (F := F) m e j' = gPt e (rows k h) (gX m))
    {off : Fin 2 → Nat} {inb} (hoff : off = ![1024 * k.val + 512 * h.val, 0])
    {hsc hsrc hdst hsem} {α : Type} {Q : α → sProp 𝕄} {kk : PUnit → Prog (TpuEff nD τ sig (Elt F) Λ₀ .tc) α} :
    iprop(records m K ∗ owing c ((dma j' e, NH) :: l) ∗ gPt c (rows k h) (gX m) ∗ gAny e (rows k h)
        ∗ tok j c ∗ reached ER (dma j c) 0 ∗ tok j' e ∗ reached ER (dma j' e) 0
        ∗ ((owing c l ∗ cred (tallyAt (dma j c) () (amt j))) -∗ wp frame (wpE (defs₀ (F := F)) 𝒱₀ c none) Set.univ (kk ⟨⟩) Q))
      ⊢ wp frame (wpE (defs₀ (F := F)) 𝒱₀ c none) Set.univ (.op (.enqueueDma (gM.slice (Rect.unit (s := S4096x4096) off S512x4096.size inb) (fun _ => rfl))
          (.remote (Dev.tc n : Thread nD τ) (gM.slice (Rect.unit (s := S4096x4096) off S512x4096.size inb) (fun _ => rfl)) (.dma j) hsc) (.dma j') hsrc hdst hsem) kk) Q := by
  subst hn
  unfold gAny
  iintro ⟨#HR, HO, HX, ⟨%fd, HG⟩, T, #R, T', #R', Hk⟩
  iapply (send_step m K j j' hj.1 hj'.1 (amt_half hj.2) (amt_half hj'.2) c n l
    (src := gM.slice (Rect.unit (s := S4096x4096) off S512x4096.size inb) (fun _ => rfl))
    (dst := gM.slice (Rect.unit (s := S4096x4096) off S512x4096.size inb) (fun _ => rfl)) (hsc := hsc) (hsrc := hsrc) (hdst := hdst) (hsem := hsem)
    (q := fullShare) (fs := gX m) (fd := fd)
    (Entails.of_eq ((g_view c k h off inb hoff (gX m)).trans hp.symm))
    (Entails.of_eq ((forwarded_view m n k h off inb hoff fd).trans hp'.symm)))
  isplitr; · iexact HR
  isplitl [HO]; · iexact HO
  isplitl [HX]; · iapply (Entails.of_eq (g_view c k h off inb hoff (gX m)).symm); iexact HX
  isplitl [HG]; · iapply (Entails.of_eq (g_view n k h off inb hoff fd).symm); iexact HG
  isplitl [T]; · iexact T
  isplitr; · iexact R
  isplitl [T']; · iexact T'
  isplitr; · iexact R'
  iexact Hk

set_option maxHeartbeats 4000000 in
/-- The second call: the opposite chunk arrives, a half from either side, and the gathered array is whole. -/
theorem forward_run (c : Dev nD) (t : Fin cfg1.N) (Q : PUnit → sProp 𝕄) :
    iprop((records m K ∗ levAts L lv) ∗ (owing c (dues1 c) ∗ toks1 c ∗ creds1 c ∗ atPos ER (bar 1 c) 0 ∅ 0 ∗ fresh1 c)
        ∗ gPt c Finset.univ (g1 m c)
        ∗ ((owing c [] ∗ (semVal (bar 1 c) 0 ∗ zero1 c) ∗ gPt c Finset.univ (gX m)) -∗ Q ⟨⟩))
      ⊢ wp frame (wpE (defs₀ (F := F)) 𝒱₀ c none) Set.univ (bodyAt1 (F := F) t) Q := by
  rw [g_split c (g1 m c), g_split c (gX m), g1_chunk]
  have n1 : ∀ c : Dev nD, lf c ≠ opp c ∧ rt c ≠ opp c := by decide
  rw [g1_rows m c (lf c) (n1 c).1, g1_rows m c (lf c) (n1 c).1, g1_rows m c (rt c) (n1 c).2, g1_rows m c (rt c) (n1 c).2]
  unfold bodyAt1
  simp only [cc1__forward_body_eq_skeleton]; unfold cc1__forward_body_skel
  simp only [k1_part1_eq_skeleton, k1_part2_eq_skeleton]; unfold k1_part1_skel k1_part2_skel
  simp only [semSignalWord, semWaitWord, Prog.lift, Prog.bind_op, Prog.bind_ret, Prog.pure_eq_ret, Prog.bind_assoc, wp_deviceId]
  simp only [sem_fsend0, sem_fsend1, sem_frecv0, sem_frecv1]
  simp only [k1_left1, k1_right2]
  unfold toks1 creds1 fresh1 zero1 fresh
  iintro ⟨⟨#HR, #Hlev⟩, ⟨HO, ⟨TbL, TbR, T9, T10, T11, T12⟩, ⟨CB, C11, C12⟩, PB,
    ⟨P9, #R9⟩, ⟨P10, #R10⟩, ⟨P11, #R11⟩, ⟨P12, #R12⟩⟩,
    ⟨GC, ⟨GL0, GL1⟩, ⟨GR0, GR1⟩, GO0, GO1⟩, Hk⟩
  unfold dues1
  iapply (signal_step m K 1 c (lf c) true)
  isplitr; · iexact HR
  isplitl [HO]; · iexact HO
  isplitl [TbL]; · iexact TbL
  isplitl [GO0]
  · rw [fpay_left]; unfold gAny
    isplitl [GO0]; · iexists _; iexact GO0
    iexact R11
  iintro HO
  iapply (signal_step m K 1 c (rt c) false)
  isplitr; · iexact HR
  isplitl [HO]; · iexact HO
  isplitl [TbR]; · iexact TbR
  isplitl [GO1]
  · rw [fpay_right]; unfold gAny
    isplitl [GO1]; · iexists _; iexact GO1
    iexact R12
  iintro HO
  iapply (barrier_step m K 1 c _ (aboveF c))
  isplitr; · iexact HR
  isplitr; · iexact Hlev
  isplitl [HO]; · iexact HO
  isplitl [CB]; · iexact CB
  isplitl [PB]; · iexact PB
  rw [fgot_right, fgot_left]
  iintro ⟨HO, HB, ⟨DR, #Q11⟩, ⟨DL, #Q12⟩⟩
  iapply (send_g m K 9 11 (by decide) (by decide) c _ (rt c) (lf c) (k1_right3 c) 0 _ rfl
    (by show gPt (rt c) (rows (opp (rt c)) 0) (gX m) = _; rw [opp_rt]) (off_left c))
  isplitr; · iexact HR
  isplitl [HO]; · iexact HO
  isplitl [GL0]; · iexact GL0
  isplitl [DR]; · iexact DR
  isplitl [T9]; · iexact T9
  isplitr; · iexact R9
  isplitl [T11]; · iexact T11
  isplitr; · iexact Q11
  iintro ⟨HO, C9⟩
  iapply (send_g m K 10 12 (by decide) (by decide) c _ (lf c) (rt c) (k1_left4 c) 1 _ rfl
    (by show gPt (lf c) (rows (opp (lf c)) 1) (gX m) = _; rw [opp_lf]) (off_right c))
  isplitr; · iexact HR
  isplitl [HO]; · iexact HO
  isplitl [GR1]; · iexact GR1
  isplitl [DL]; · iexact DL
  isplitl [T10]; · iexact T10
  isplitr; · iexact R10
  isplitl [T12]; · iexact T12
  isplitr; · iexact Q12
  iintro ⟨HO, C10⟩
  iapply (wait_step m K 11 (by decide) c _ (above_nil _) ((credit_g _ _).trans (amt_half (by decide)).symm))
  isplitr; · iexact HR
  isplitr; · iexact Hlev
  isplitl [HO]; · iexact HO
  isplitl [C11]; · iexact C11
  isplitl [P11]; · iexact P11
  rw [pay_11]
  iintro ⟨HO, Z11, GO0⟩
  iapply (wait_step m K 12 (by decide) c _ (above_nil _) ((credit_g _ _).trans (amt_half (by decide)).symm))
  isplitr; · iexact HR
  isplitr; · iexact Hlev
  isplitl [HO]; · iexact HO
  isplitl [C12]; · iexact C12
  isplitl [P12]; · iexact P12
  rw [pay_12]
  iintro ⟨HO, Z12, GO1⟩
  iapply (wait_step m K 9 (by decide) c _ (above_nil _) ((credit_g _ _).trans (amt_half (by decide)).symm))
  isplitr; · iexact HR
  isplitr; · iexact Hlev
  isplitl [HO]; · iexact HO
  isplitl [C9]; · iexact C9
  isplitl [P9]; · iexact P9
  rw [pay_9]
  iintro ⟨HO, Z9, GL0⟩
  iapply (wait_step m K 10 (by decide) c _ (above_nil _) ((credit_g _ _).trans (amt_half (by decide)).symm))
  isplitr; · iexact HR
  isplitr; · iexact Hlev
  isplitl [HO]; · iexact HO
  isplitl [C10]; · iexact C10
  isplitl [P10]; · iexact P10
  rw [pay_10]
  iintro ⟨HO, Z10, GR1⟩
  rw [wp_ret]; imodintro
  iapply Hk
  isplitl [HO]; · iexact HO
  isplitl [HB Z9 Z10 Z11 Z12]
  · isplitl [HB]; · iexact HB
    isplitl [Z9]; · iexact Z9
    isplitl [Z10]; · iexact Z10
    isplitl [Z11]; · iexact Z11
    iexact Z12
  isplitl [GC]; · iexact GC
  isplitl [GL0 GL1]; · isplitl [GL0] <;> iassumption
  isplitl [GR0 GR1]; · isplitl [GR0] <;> iassumption
  isplitl [GO0] <;> iassumption

end Cert.KernelIdeal.Talk

end
-- ==== Proof.KernelIdeal.Matmul.lean ====
/-
  The third call on one device: at each grid point the block product of the gathered array with the weight block, times its
  logistic, goes to the output block; and what the whole output array holds once every block is written back.
-/
module

public import proofs.«01_k».proof.Proof.KernelIdeal.Forward
public import proofs.«01_k».proof.Proof.Gen.KernelIdeal.Launch
public import Idealize.ShloMosaic.Lib.Pipeline.Value

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type}

local notation "𝕄" => MT nD τ sig Unit (Elt F) ℕ UU ℕ

/-! ## Reading and writing a staging buffer whole -/

/-- The rectangle that starts at the origin and is as large as the shape names each index by itself. -/
theorem whole_emb {S : Shape} {off : Fin S.rank → Nat} (h : off = fun _ => 0) (inb : ∀ a, off a + S.size a ≤ S.size a) (x : S.Idx) :
    (Rect.unit (s := S) off S.size inb).emb x = x := by
  subst h
  funext a; apply Fin.ext
  rw [Rect.emb_apply]
  show 0 + 1 * (x a).val = (x a).val
  omega

/-- Read through that rectangle, a buffer gives its whole contents. -/
theorem read_all {S : Shape} {sp : Space} {e : EltTy} (M : Memref sig .tc sp S e) {off : Fin S.rank → Nat} (h : off = fun _ => 0)
    (inb : ∀ a, off a + S.size a ≤ S.size a) (f : M.view.ty.Contents (Elt F)) :
    (M.access (Rect.unit (s := S) off S.size inb)).read (Elt F) f = M.view.read (Elt F) f := by
  funext x
  show _root_.cast _ (f (M.view.emb ((Rect.unit (s := S) off S.size inb).emb x))) = _root_.cast _ (f (M.view.emb x))
  rw [whole_emb h inb]

/-- Written through that rectangle, a buffer holds what was written. -/
theorem read_write_all {S : Shape} {sp : Space} {e : EltTy} (M : Memref sig .tc sp S e) {off : Fin S.rank → Nat} (h : off = fun _ => 0)
    (inb : ∀ a, off a + S.size a ≤ S.size a) (f : M.view.ty.Contents (Elt F)) (v : S.Idx → Elt F e) :
    M.view.read (Elt F) ((M.access (Rect.unit (s := S) off S.size inb)).write (Elt F) f v Finset.univ) = v := by
  funext y
  conv_lhs => rw [← whole_emb h inb y]
  rw [View.read_slice_write_emb _ _ _ (Finset.mem_univ _)]

theorem origin : (![0, 0] : Fin 2 → Nat) = fun _ => 0 := funext fun a => by fin_cases a <;> rfl

variable [FloatOps F]

/-- The body at any point and on any staging buffers: the two operands stay as they are, the output buffer comes to hold the
    product times its logistic. -/
theorem mm_run (c : Dev nD) (i : grid2.Coords) (A : Memref sig .tc .vmem S512x4096 .f32) (hA : A.IsWhole)
    (B : Memref sig .tc .vmem S4096x512 .f32) (hB : B.IsWhole) (C : Memref sig .tc .vmem S512x512 .f32) (hC : C.IsWhole)
    (a : S512x4096.Idx → Elt F .f32) (b : S4096x512.Idx → Elt F .f32) (Q : PUnit → sProp 𝕄) :
    iprop(owns (c : Thread nD τ) A fullShare a ∗ owns (c : Thread nD τ) B fullShare b ∗ (∃ d, owns (c : Thread nD τ) C fullShare d)
        ∗ ((owns (c : Thread nD τ) A fullShare a ∗ owns (c : Thread nD τ) B fullShare b ∗ owns (c : Thread nD τ) C fullShare (k2_pay1 a b)) -∗ Q ⟨⟩))
      ⊢ wp frame (wpE (defs₀ (F := F)) 𝒱₀ c none) Set.univ (cc2__mm_body i A hA B hB C hC) Q := by
  rw [cc2__mm_body_eq_skeleton]
  unfold owns cc2__mm_body_skel
  iintro ⟨⟨%f, %hf, HA⟩, ⟨%g, %hg, HB⟩, ⟨%d, %h, -, HC⟩, Hk⟩
  iapply (wp_load_rect 𝒱₀ (c : Thread nD τ) none Set.univ (m := A) (r := Rect.unit (s := S512x4096) ![0, 0] S512x4096.size inb_S512x4096_S512x4096_0_0) (View.set_slice_subset _ _)) $$ HA
  iintro HA
  iapply (wp_load_rect 𝒱₀ (c : Thread nD τ) none Set.univ (m := B) (r := Rect.unit (s := S4096x512) ![0, 0] S4096x512.size inb_S4096x512_S4096x512_0_0) (View.set_slice_subset _ _)) $$ HB
  iintro HB
  iapply (wp_load_rect 𝒱₀ (c : Thread nD τ) none Set.univ (m := C) (r := Rect.unit (s := S512x512) ![0, 0] S512x512.size inb_S512x512_S512x512_0_0) (View.set_slice_subset _ _)) $$ HC
  iintro HC
  iapply (wp_store 𝒱₀ (c : Thread nD τ) none Set.univ (m := C) (r := Rect.unit (s := S512x512) ![0, 0] S512x512.size inb_S512x512_S512x512_0_0) (Mk := Finset.univ) (View.set_slice_subset _ _)) $$ HC
  iintro HC
  rw [show ((Prog.ret PUnit.unit).bind fun _ => Pure.pure PUnit.unit : Prog (TpuEff nD τ sig (Elt F) Λ₀ .tc) PUnit) = Prog.ret PUnit.unit from rfl,
    wp_ret]
  imodintro
  iapply Hk
  isplitl [HA]
  · iexists f; isplitr; · ipureintro; exact hf
    iexact HA
  isplitl [HB]
  · iexists g; isplitr; · ipureintro; exact hg
    iexact HB
  iexists _; isplitr
  swap; · iexact HC
  ipureintro
  rw [read_write_all C origin, read_all A origin, read_all B origin, hf, hg]

/-! ## The call's data -/

variable (m : (ℓ : Loc nD τ sig) → Buf (Elt F) ℓ)

/-- The buffers of a device as the program finds them, after the first call, and after the second. -/
def W0 (c : Dev nD) : Valuation τ sig (Elt F) := fun b => m (c, b)
def W1 (c : Dev nD) : Valuation τ sig (Elt F) := Function.update (W0 m c) (Proc.devRef .tc main_v1) (g1 m c)
def W2 (c : Dev nD) : Valuation τ sig (Elt F) := Function.update (W1 m c) (Proc.devRef .tc main_v1) (gX m)

/-- The block of the gathered array, and of the weights, that point `t` works on. -/
def lhsAt (c : Dev nD) (t : Fin cfg2.N) : S512x4096.Idx → Elt F .f32 :=
  ((cfg2.win 0).blk t).view.read (Elt F) (W2 m c (Proc.devRef .tc main_v1))
def rhsAt (c : Dev nD) (t : Fin cfg2.N) : S4096x512.Idx → Elt F .f32 :=
  ((cfg2.win 1).blk t).view.read (Elt F) (W2 m c (Proc.devRef .tc main_arg1))

/-- The third call: arrays as the second call leaves them; operands stay, the output block is the body's value of them. -/
def dat2 (c : Dev nD) : Dat τ (Elt F) Unit ℕ UU ℕ cfg2 c where
  A w := W2 m c (Proc.devRef .tc (Pipeline.arrRef spec2 w))
  after w t := match w with
    | ⟨0, _⟩ => lhsAt m c t
    | ⟨1, _⟩ => rhsAt m c t
    | ⟨2, _⟩ => k2_pay1 (lhsAt m c t) (rhsAt m c t)
  Φ _ := iprop(∃ r, prngReg c r)
  q _ := fullShare
  owed _ := 0

/-- The first operand's buffer holds its block at every point, fetched there or kept from the point before. -/
theorem before_lhs (c : Dev nD) (t : Fin cfg2.N) (d) : (dat2 m c).before 0 t d = lhsAt m c t :=
  (dat2 m c).before_in_eq_fetched 0 rfl (fun _ => rfl) (fun _ _ _ => rfl) (fun _ => rfl) t d

theorem before_rhs (c : Dev nD) (t : Fin cfg2.N) (d) : (dat2 m c).before 1 t d = rhsAt m c t :=
  (dat2 m c).before_in_eq_fetched 1 rfl (fun _ => rfl) (fun _ _ _ => rfl) (fun _ => rfl) t d

/-- The body meets the call's data at every point. -/
theorem body2 (c : Dev nD) : BodyObligation (dat2 m c) (defs₀ (F := F)) 𝒱₀ () Set.univ := fun t => by
  rw [bigSep_W2, bigSep_W2]
  rw [show (dat2 m c).Φ t.succ = (dat2 m c).Φ t.castSucc from rfl,
    show (dat2 m c).owesAt () t.succ = (dat2 m c).owesAt () t.castSucc from rfl]
  iintro ⟨HΦ, HO, ⟨%d0, H0⟩, ⟨%d1, H1⟩, ⟨%d2, H2⟩⟩
  rw [before_lhs, before_rhs]
  iapply (mm_run c (grid2.coords t) (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2)) (lhsAt m c t) (rhsAt m c t) _)
  isplitl [H0]; · iexact H0
  isplitl [H1]; · iexact H1
  isplitl [H2]; · iexists _; iexact H2
  iintro ⟨H0, H1, H2⟩
  isplitl [HΦ]; · iexact HΦ
  isplitl [HO]; · iexact HO
  isplitl [H0]; · iexact H0
  isplitl [H1]; · iexact H1
  iexact H2

/-- What the call leaves in the output array, and the buffers of a device after it. -/
def outX (c : Dev nD) : Buf (Elt F) ((c : Thread nD τ).loc main_v3) := (dat2 m c).arrAt 2 cfg2.N
def W3 (c : Dev nD) : Valuation τ sig (Elt F) := Function.update (W2 m c) (Proc.devRef .tc main_v3) (outX m c)

end Cert.KernelIdeal.Talk

end
-- ==== Proof.KernelIdeal.Calls.lean ====
/-
  The three calls of a device, one after the other: what each finds, what each leaves, and what is carried along for the next.
-/
module

public import proofs.«01_k».proof.Proof.KernelIdeal.Matmul
public import proofs.«01_k».proof.Proof.Gen.KernelIdeal.Regions
public import Idealize.ShloMosaic.Lib.Pipeline.RegionTalk
public import Idealize.ShloMosaic.Lib.Pipeline.RegionArrays

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] (m : (ℓ : Loc nD τ sig) → Buf (Elt F) ℓ)

local notation "𝕄" => MT nD τ sig Unit (Elt F) ℕ UU ℕ

/-! ## Waking a call's transfer semaphores -/

abbrev osem0 : Fin 9 → SemLoc sig := fun k => .dma (⟨k.val, by omega⟩ : Fin 19)
abbrev osem1 : Fin 4 → SemLoc sig := fun k => .dma (⟨k.val + 9, by omega⟩ : Fin 19)

abbrev asleep (j : Fin 19) (c : Dev nD) : sProp 𝕄 := openTok ER (dma j c)
def asleep0 (c : Dev nD) : sProp 𝕄 :=
  iprop(asleep 0 c ∗ asleep 1 c ∗ asleep 2 c ∗ asleep 3 c ∗ asleep 4 c ∗ asleep 5 c ∗ asleep 6 c ∗ asleep 7 c ∗ asleep 8 c)
def asleep1 (c : Dev nD) : sProp 𝕄 := iprop(asleep 9 c ∗ asleep 10 c ∗ asleep 11 c ∗ asleep 12 c)

omit [FloatOps F] in
theorem own0 (c : Dev nD) : (Pipeline.ownSems0 (Ix := Unit) (Name := ℕ) (U := UU) (Lvl := ℕ) (Val := Elt F) (τ := τ) osem0 c : sProp 𝕄) = zero0 c :=
  Pipeline.ownSems0_eq_of_list c osem0 [0, 1, 2, 3, 4, 5, 6, 7, 8] (by decide) (by decide)
omit [FloatOps F] in
theorem own1 (c : Dev nD) : (Pipeline.ownSems0 (Ix := Unit) (Name := ℕ) (U := UU) (Lvl := ℕ) (Val := Elt F) (τ := τ) osem1 c : sProp 𝕄) = zero1 c :=
  Pipeline.ownSems0_eq_of_list c osem1 [0, 1, 2, 3] (by decide) (by decide)

omit [FloatOps F] in
/-- A semaphore at zero, asleep since the start of the program, is woken at the first round. -/
theorem wake (K : GSem nD τ sig → ℕ) (j : Fin 19) (h : j.val < 13) (c : Dev nD) :
    iprop(records m K ∗ asleep j c ∗ semVal (dma j c) 0) ⊢ (|={Set.univ}=> fresh j c : sProp 𝕄) := by
  unfold fresh
  iintro ⟨#HR, Ho, Hv⟩
  iapply (Rounds.cell_open ER (rd m) (g := dma j c) (Set.mem_univ (K (dma j c))))
  isplitr; · iapply (inv_dma m K j h c); iexact HR
  isplitl [Ho] <;> iassumption

omit [FloatOps F] in
theorem wake0 (K : GSem nD τ sig → ℕ) (c : Dev nD) : iprop(records m K ∗ asleep0 c ∗ zero0 c) ⊢ (|={Set.univ}=> fresh0 c : sProp 𝕄) := by
  unfold asleep0 zero0 fresh0
  iintro ⟨#HR, ⟨A0, A1, A2, A3, A4, A5, A6, A7, A8⟩, Z0, Z1, Z2, Z3, Z4, Z5, Z6, Z7, Z8⟩
  imod (wake m K 0 (by decide) c) $$ [A0 Z0] with F0
  · isplitr; (· iexact HR); isplitl [A0] <;> iassumption
  imod (wake m K 1 (by decide) c) $$ [A1 Z1] with F1
  · isplitr; (· iexact HR); isplitl [A1] <;> iassumption
  imod (wake m K 2 (by decide) c) $$ [A2 Z2] with F2
  · isplitr; (· iexact HR); isplitl [A2] <;> iassumption
  imod (wake m K 3 (by decide) c) $$ [A3 Z3] with F3
  · isplitr; (· iexact HR); isplitl [A3] <;> iassumption
  imod (wake m K 4 (by decide) c) $$ [A4 Z4] with F4
  · isplitr; (· iexact HR); isplitl [A4] <;> iassumption
  imod (wake m K 5 (by decide) c) $$ [A5 Z5] with F5
  · isplitr; (· iexact HR); isplitl [A5] <;> iassumption
  imod (wake m K 6 (by decide) c) $$ [A6 Z6] with F6
  · isplitr; (· iexact HR); isplitl [A6] <;> iassumption
  imod (wake m K 7 (by decide) c) $$ [A7 Z7] with F7
  · isplitr; (· iexact HR); isplitl [A7] <;> iassumption
  imod (wake m K 8 (by decide) c) $$ [A8 Z8] with F8
  · isplitr; (· iexact HR); isplitl [A8] <;> iassumption
  imodintro
  isplitl [F0]; · iexact F0
  isplitl [F1]; · iexact F1
  isplitl [F2]; · iexact F2
  isplitl [F3]; · iexact F3
  isplitl [F4]; · iexact F4
  isplitl [F5]; · iexact F5
  isplitl [F6]; · iexact F6
  isplitl [F7]; · iexact F7
  iexact F8

omit [FloatOps F] in
theorem wake1 (K : GSem nD τ sig → ℕ) (c : Dev nD) : iprop(records m K ∗ asleep1 c ∗ zero1 c) ⊢ (|={Set.univ}=> fresh1 c : sProp 𝕄) := by
  unfold asleep1 zero1 fresh1
  iintro ⟨#HR, ⟨A0, A1, A2, A3⟩, Z0, Z1, Z2, Z3⟩
  imod (wake m K 9 (by decide) c) $$ [A0 Z0] with F0
  · isplitr; (· iexact HR); isplitl [A0] <;> iassumption
  imod (wake m K 10 (by decide) c) $$ [A1 Z1] with F1
  · isplitr; (· iexact HR); isplitl [A1] <;> iassumption
  imod (wake m K 11 (by decide) c) $$ [A2 Z2] with F2
  · isplitr; (· iexact HR); isplitl [A2] <;> iassumption
  imod (wake m K 12 (by decide) c) $$ [A3 Z3] with F3
  · isplitr; (· iexact HR); isplitl [A3] <;> iassumption
  imodintro
  isplitl [F0]; · iexact F0
  isplitl [F1]; · iexact F1
  isplitl [F2]; · iexact F2
  iexact F3

/-! ## What a device holds for a call, before and once its semaphores are awake -/

def hold0 (c : Dev nD) : sProp 𝕄 := iprop((∃ K, records m K) ∗ toks0 c ∗ creds0 c ∗ atPos ER (bar 0 c) 0 ∅ 0)
def hold1 (c : Dev nD) : sProp 𝕄 := iprop((∃ K, records m K) ∗ toks1 c ∗ creds1 c ∗ atPos ER (bar 1 c) 0 ∅ 0)
def ready0 (c : Dev nD) : sProp 𝕄 := iprop(hold0 m c ∗ asleep0 c)
def ready1 (c : Dev nD) : sProp 𝕄 := iprop(hold1 m c ∗ asleep1 c)
def awake0 (c : Dev nD) : sProp 𝕄 := iprop(hold0 m c ∗ fresh0 c ∗ levAts L lv)
def awake1 (c : Dev nD) : sProp 𝕄 := iprop(hold1 m c ∗ fresh1 c ∗ levAts L lv)

omit [FloatOps F] in
theorem open0 (c : Dev nD) : iprop(ready0 m c ∗ Pipeline.ownSems0 osem0 c ∗ levAts L lv) ⊢ (|={Set.univ}=> awake0 m c : sProp 𝕄) := by
  rw [own0]; unfold ready0 awake0 hold0
  iintro ⟨⟨⟨⟨%K, #HR⟩, Ht, Hc, Ha⟩, Hs⟩, Hz, HL⟩
  imod (wake0 m K c) $$ [Hs Hz] with HF
  · isplitr; (· iexact HR); isplitl [Hs] <;> iassumption
  imodintro
  isplitl [Ht Hc Ha]
  · isplitr; · iexists K; iexact HR
    isplitl [Ht]; · iexact Ht
    isplitl [Hc] <;> iassumption
  isplitl [HF] <;> iassumption

omit [FloatOps F] in
theorem open1 (c : Dev nD) : iprop(ready1 m c ∗ Pipeline.ownSems0 osem1 c ∗ levAts L lv) ⊢ (|={Set.univ}=> awake1 m c : sProp 𝕄) := by
  rw [own1]; unfold ready1 awake1 hold1
  iintro ⟨⟨⟨⟨%K, #HR⟩, Ht, Hc, Ha⟩, Hs⟩, Hz, HL⟩
  imod (wake1 m K c) $$ [Hs Hz] with HF
  · isplitr; (· iexact HR); isplitl [Hs] <;> iassumption
  imodintro
  isplitl [Ht Hc Ha]
  · isplitr; · iexists K; iexact HR
    isplitl [Ht]; · iexact Ht
    isplitl [Hc] <;> iassumption
  isplitl [HF] <;> iassumption

/-! ## The calls' data -/

/-- The scoped buffers that a call without windows leaves alone. -/
abbrev bufs0 (c : Dev nD) : sProp 𝕄 := Pipeline.scopedRest (Ix := Unit) (Name := ℕ) (U := UU) (Lvl := ℕ) (Val := Elt F) cfg0.spec c
abbrev bufs1 (c : Dev nD) : sProp 𝕄 := Pipeline.scopedRest (Ix := Unit) (Name := ℕ) (U := UU) (Lvl := ℕ) (Val := Elt F) cfg1.spec c

def before0 (c : Dev nD) : sProp 𝕄 :=
  iprop(awake0 m c ∗ xPt m c Finset.univ fullShare ∗ gPt c Finset.univ (m ((c : Thread nD τ).loc main_v1)) ∗ bufs0 c ∗ ∃ r, prngReg c r)
def after0 (c : Dev nD) : sProp 𝕄 :=
  iprop((semVal (bar 0 c) 0 ∗ zero0 c) ∗ xPt m c Finset.univ fullShare ∗ gPt c Finset.univ (g1 m c) ∗ bufs0 c ∗ ∃ r, prngReg c r)
def before1 (c : Dev nD) : sProp 𝕄 := iprop(awake1 m c ∗ gPt c Finset.univ (g1 m c) ∗ bufs1 c ∗ ∃ r, prngReg c r)
def after1 (c : Dev nD) : sProp 𝕄 :=
  iprop((semVal (bar 1 c) 0 ∗ zero1 c) ∗ gPt c Finset.univ (gX m) ∗ bufs1 c ∗ ∃ r, prngReg c r)

def dat0 (c : Dev nD) : Dat τ (Elt F) Unit ℕ UU ℕ cfg0 c where
  A w := w.elim0
  after w := w.elim0
  Φ t := if t.val = 0 then before0 m c else after0 m c
  q w := w.elim0
  owed t := if t.val = 0 then owe (dues0 c ++ dues1 c) else owe (dues1 c)

def dat1 (c : Dev nD) : Dat τ (Elt F) Unit ℕ UU ℕ cfg1 c where
  A w := w.elim0
  after w := w.elim0
  Φ t := if t.val = 0 then before1 m c else after1 m c
  q w := w.elim0
  owed t := if t.val = 0 then owe (dues1 c) else 0

def pdats : (p : Fin 3) → (c : Dev nD) → Dat τ (Elt F) Unit ℕ UU ℕ (Pipeline.pin (pcfgs (F := F)) adm p) c
  | ⟨0, _⟩ => dat0 m
  | ⟨1, _⟩ => dat1 m
  | ⟨2, _⟩ => dat2 m

omit [FloatOps F] in
theorem no_windows {M : Type} [URA M] (Φ : Fin 0 → sProp M) : bigSep Finset.univ Φ = (BI.emp : sProp M) :=
  bigSep_univ_eq_bigSepL [] (by decide) (by decide) Φ

omit [FloatOps F] in
theorem owes_in {cfg : Pipeline.Cfg sig Λ₀} {c : Dev nD} (dat : Dat τ (Elt F) Unit ℕ UU ℕ cfg c) (t : Fin (cfg.N + 1))
    (l : List (GSem nD τ sig × ℕ)) (h : dat.owed t = owe l) (hr : dat.recorded t = Set.univ) :
    (owing c l : sProp 𝕄) ⊢ (dat.owesAt () t : sProp 𝕄) := by
  unfold owing Dat.owesAt Pipeline.owesWithin Dat.bound; rw [h, hr]
  iintro ⟨%W, HO⟩; iexists W
  isplitr; · ipureintro; exact fun _ _ => Or.inl trivial
  iexact HO
omit [FloatOps F] in
theorem owes_out {cfg : Pipeline.Cfg sig Λ₀} {c : Dev nD} (dat : Dat τ (Elt F) Unit ℕ UU ℕ cfg c) (t : Fin (cfg.N + 1))
    (l : List (GSem nD τ sig × ℕ)) (h : dat.owed t = owe l) :
    (dat.owesAt () t : sProp 𝕄) ⊢ (owing c l : sProp 𝕄) := by
  unfold owing Dat.owesAt Pipeline.owesWithin; rw [h]
  iintro ⟨%W, -, HO⟩; iexists W; iexact HO

theorem body0 (c : Dev nD) : BodyObligation (dat0 m c) (defs₀ (F := F)) 𝒱₀ () Set.univ := fun t => by
  obtain rfl := fin_N0 t
  rw [no_windows, no_windows]
  rw [show (dat0 m c).Φ t0_0.castSucc = before0 m c from rfl, show (dat0 m c).Φ t0_0.succ = after0 m c from rfl]
  unfold before0 after0 awake0 hold0
  iintro ⟨⟨⟨⟨⟨%K, #HR⟩, Ht, Hc, Ha⟩, HF, #HL⟩, Hx, Hg, Hb, Hp⟩, HO, -⟩
  ihave HO' := (owes_out (dat0 m c) t0_0.castSucc (dues0 c ++ dues1 c) rfl) $$ HO
  iapply (exchange_run m K c t0_0 _)
  isplitr
  · isplitr; · iexact HR
    iexact HL
  isplitl [HO' Ht Hc Ha HF]
  · isplitl [HO']; · iexact HO'
    isplitl [Ht]; · iexact Ht
    isplitl [Hc]; · iexact Hc
    isplitl [Ha] <;> iassumption
  isplitl [Hx]; · iexact Hx
  isplitl [Hg]; · iexact Hg
  iintro ⟨HO, Hz, Hx, Hg⟩
  isplitl [Hz Hx Hg Hb Hp]
  · isplitl [Hz]; · iexact Hz
    isplitl [Hx]; · iexact Hx
    isplitl [Hg]; · iexact Hg
    isplitl [Hb] <;> iassumption
  isplitl [HO]; · iapply (owes_in (dat0 m c) t0_0.succ (dues1 c) rfl rfl); iexact HO
  iempintro

theorem body1 (c : Dev nD) : BodyObligation (dat1 m c) (defs₀ (F := F)) 𝒱₀ () Set.univ := fun t => by
  obtain rfl := fin_N1 t
  rw [no_windows, no_windows]
  rw [show (dat1 m c).Φ t1_0.castSucc = before1 m c from rfl, show (dat1 m c).Φ t1_0.succ = after1 m c from rfl]
  unfold before1 after1 awake1 hold1
  iintro ⟨⟨⟨⟨⟨%K, #HR⟩, Ht, Hc, Ha⟩, HF, #HL⟩, Hg, Hb, Hp⟩, HO, -⟩
  ihave HO' := (owes_out (dat1 m c) t1_0.castSucc (dues1 c) rfl) $$ HO
  iapply (forward_run m K c t1_0 _)
  isplitr
  · isplitr; · iexact HR
    iexact HL
  isplitl [HO' Ht Hc Ha HF]
  · isplitl [HO']; · iexact HO'
    isplitl [Ht]; · iexact Ht
    isplitl [Hc]; · iexact Hc
    isplitl [Ha] <;> iassumption
  isplitl [Hg]; · iexact Hg
  iintro ⟨HO, Hz, Hg⟩
  isplitl [Hz Hg Hb Hp]
  · isplitl [Hz]; · iexact Hz
    isplitl [Hg]; · iexact Hg
    isplitl [Hb] <;> iassumption
  isplitl [HO]; · iapply (owes_in (dat1 m c) t1_0.succ [] rfl rfl); iexact HO
  iempintro

end Cert.KernelIdeal.Talk

end
-- ==== Proof.KernelIdeal.Regions.lean ====
/-
  The three regions of the program, and the states of a device between them.
-/
module

public import proofs.«01_k».proof.Proof.KernelIdeal.Calls

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)
open Cert.KernelIdeal Cert.KernelIdeal.Gen

variable {F : FTy → Type} [FloatOps F] (m : (ℓ : Loc nD τ sig) → Buf (Elt F) ℓ)

local notation "𝕄" => MT nD τ sig Unit (Elt F) ℕ UU ℕ

/-! ## The states -/

abbrev unscoped : Finset (DevRef τ sig) := Pipeline.ucRefs τ sig
abbrev heldAll (c : Dev nD) (W : Valuation τ sig (Elt F)) : sProp 𝕄 := StableHlo.held (c.tc : Thread nD τ) unscoped W
abbrev prng (c : Dev nD) : sProp 𝕄 := iprop(∃ r, prngReg c r)

def state0 (c : Dev nD) : sProp 𝕄 := iprop(heldAll c (W0 m c) ∗ prng c ∗ ready0 m c ∗ ready1 m c ∗ owing c (dues0 c ++ dues1 c))
def state1 (c : Dev nD) : sProp 𝕄 := iprop(heldAll c (W1 m c) ∗ prng c ∗ semVal (bar 0 c) 0 ∗ ready1 m c ∗ owing c (dues1 c))
def state2 (c : Dev nD) : sProp 𝕄 := iprop(heldAll c (W2 m c) ∗ prng c ∗ semVal (bar 0 c) 0 ∗ semVal (bar 1 c) 0 ∗ owing c [])
def state3 (c : Dev nD) : sProp 𝕄 := iprop(heldAll c (W3 m c) ∗ prng c ∗ semVal (bar 0 c) 0 ∗ semVal (bar 1 c) 0 ∗ owing c [])

/-! ## The buffers that the two collective calls address -/

abbrev rX : DevRef τ sig := Proc.devRef .tc main_arg0
abbrev rG : DevRef τ sig := Proc.devRef .tc main_v1
abbrev rW : DevRef τ sig := Proc.devRef .tc main_arg1
abbrev rY : DevRef τ sig := Proc.devRef .tc main_v3
def used0 : Finset (DevRef τ sig) := {rX, rG}
def used1 : Finset (DevRef τ sig) := {rG}

theorem used0_sub : used0 ⊆ unscoped := by decide
theorem used1_sub : used1 ⊆ unscoped := by decide
theorem arr_sub : Pipeline.arrRefs (τ := τ) spec2 ⊆ unscoped := Pipeline.arrRefs_sub_ucRefs spec2 launch2.win.arr_unscoped

omit [FloatOps F] in
theorem held_used0 (c : Dev nD) (W : Valuation τ sig (Elt F)) :
    (StableHlo.held (c.tc : Thread nD τ) used0 W : sProp 𝕄)
      = iprop((((c : Thread nD τ).loc main_arg0) ↦{fullShare} W rX) ∗ gPt c Finset.univ (W rG)) := by
  unfold StableHlo.held used0
  rw [bigSep_insert (by decide), bigSep_singleton]; rfl

omit [FloatOps F] in
theorem held_used1 (c : Dev nD) (W : Valuation τ sig (Elt F)) :
    (StableHlo.held (c.tc : Thread nD τ) used1 W : sProp 𝕄) = gPt c Finset.univ (W rG) := by
  unfold StableHlo.held used1
  rw [bigSep_singleton]

omit [FloatOps F] in
/-- A call without windows has no arrays. -/
theorem held_no_arr {gr : ℕ} (win : Fin 0 → Pipeline.WinSpec sig gr) (c : Dev nD) (W : Valuation τ sig (Elt F)) :
    (StableHlo.held (c.tc : Thread nD τ) (Pipeline.arrRefs (τ := τ) win) W : sProp 𝕄) = BI.emp := by
  rw [show Pipeline.arrRefs (τ := τ) win = ∅ from by
    unfold Pipeline.arrRefs; rw [Finset.univ_eq_empty, Finset.image_empty, Finset.map_empty]]
  unfold StableHlo.held; exact bigSep_empty

theorem W1_g (c : Dev nD) : W1 m c rG = g1 m c := Function.update_self _ _ _
theorem W1_other (c : Dev nD) (b : DevRef τ sig) (h : b ≠ rG) : W1 m c b = m (c, b) := Function.update_of_ne h _ _
theorem W2_g (c : Dev nD) : W2 m c rG = gX m := Function.update_self _ _ _
theorem W2_other (c : Dev nD) (b : DevRef τ sig) (h : b ≠ rG) : W2 m c b = W1 m c b := Function.update_of_ne h _ _
theorem W3_y (c : Dev nD) : W3 m c rY = outX m c := Function.update_self _ _ _
theorem W3_other (c : Dev nD) (b : DevRef τ sig) (h : b ≠ rY) : W3 m c b = W2 m c b := Function.update_of_ne h _ _

/-! ## What is owed lies above the pipelines' own semaphores -/

theorem above01 (c : Dev nD) : Above 0 (dues0 c ++ dues1 c) := fun p hp => by
  simp only [dues0, dues1, List.cons_append, List.nil_append, List.mem_cons, List.not_mem_nil, or_false] at hp
  rcases hp with rfl | rfl | rfl | rfl | rfl | rfl | rfl | rfl | rfl | rfl <;> exact ⟨rfl, by decide +revert⟩
theorem above1 (c : Dev nD) : Above 0 (dues1 c) := fun p hp => above01 c p (List.mem_append_right _ hp)

theorem cut_of (l : List (GSem nD τ sig × ℕ)) (h : Above 0 l) (g : GSem nD τ sig) (i : Unit) (hg : 0 < owe l g i) : i ∈ L g ∧ 0 < lv g i := by
  obtain ⟨p, hp, rfl⟩ := owe_pos l g i hg
  exact ⟨by unfold L; rw [if_pos (h p hp).1]; exact Finset.mem_singleton_self _, (h p hp).2⟩

theorem cut0 (c : Dev nD) (t : Fin (cfg0.N + 1)) (g : GSem nD τ sig) (i : Unit) (h : 0 < (dat0 m c).owed t g i) : i ∈ L g ∧ 0 < lv g i := by
  have h' : 0 < (if t.val = 0 then owe (dues0 c ++ dues1 c) else owe (dues1 c)) g i := h
  split at h'
  · exact cut_of _ (above01 c) g i h'
  · exact cut_of _ (above1 c) g i h'
theorem cut1 (c : Dev nD) (t : Fin (cfg1.N + 1)) (g : GSem nD τ sig) (i : Unit) (h : 0 < (dat1 m c).owed t g i) : i ∈ L g ∧ 0 < lv g i := by
  have h' : 0 < (if t.val = 0 then owe (dues1 c) else 0) g i := h
  split at h'
  · exact cut_of _ (above1 c) g i h'
  · exact absurd h' (Nat.lt_irrefl 0)

/-! ## The first call -/

theorem kit0 : Pipeline.PLaunchFacts (nD := nD) (τ := τ) (pcfgs (F := F)) 0 := launch0.toP
theorem kit1 : Pipeline.PLaunchFacts (nD := nD) (τ := τ) (pcfgs (F := F)) 1 := launch1.toP
theorem kit2 : Pipeline.PLaunchFacts (nD := nD) (τ := τ) (pcfgs (F := F)) 2 := launch2.toP

omit [FloatOps F] in
theorem own_facts0 : Pipeline.OwnSemFacts (pcfgs (F := F) 0).spec osem0 := by
  exact (by decide : Pipeline.OwnSemFacts cfg0.spec osem0)
omit [FloatOps F] in
theorem own_facts1 : Pipeline.OwnSemFacts (pcfgs (F := F) 1).spec osem1 := by
  exact (by decide : Pipeline.OwnSemFacts cfg1.spec osem1)

theorem enter0 (c : Dev nD) : iprop(bufs0 c ∗ prng c ∗ StableHlo.held (c.tc : Thread nD τ) used0 (W0 m c) ∗ awake0 m c) ⊢ (before0 m c : sProp 𝕄) := by
  rw [held_used0]; unfold before0
  iintro ⟨Hb, Hp, ⟨Hx, Hg⟩, Ha⟩
  isplitl [Ha]; · iexact Ha
  isplitl [Hx]; · iexact Hx
  isplitl [Hg]; · iexact Hg
  isplitl [Hb] <;> iassumption

theorem leave0 (c : Dev nD) : (after0 m c : sProp 𝕄) ⊢ iprop(bufs0 c ∗ prng c ∗ StableHlo.held (c.tc : Thread nD τ) used0 (W1 m c) ∗ Pipeline.ownSems0 osem0 c ∗ semVal (bar 0 c) 0) := by
  rw [held_used0, W1_g, W1_other m c rX (by decide), own0]; unfold after0
  iintro ⟨⟨Hv, Hz⟩, Hx, Hg, Hb, Hp⟩
  isplitl [Hb]; · iexact Hb
  isplitl [Hp]; · iexact Hp
  isplitl [Hx Hg]
  · isplitl [Hx]; · iexact Hx
    iexact Hg
  isplitl [Hz] <;> iassumption

set_option backward.isDefEq.respectTransparency.types false in
def reg0 : RegionSeg (pcfgs (F := F)) adm (pdats m) () defs₀ 𝒱₀ L lv 0 :=
  RegionSeg.ofTalk (pcfgs (F := F)) adm (pdats m) () defs₀ 𝒱₀ L lv 0 osem0 own_facts0
    used0 unscoped used0_sub kit0 rfl (fun c => (body0 m c).loose)
    (fun c => owe (dues1 c)) (fun c => owe (dues0 c)) (fun c => owe_append _ _) (fun c => rfl) (fun _ => rfl) (fun _ w => w.elim0)
    (W0 m) (W1 m) (fun c b hb => W1_other m c b fun e => (Finset.mem_sdiff.mp hb).2 (by rw [e]; decide))
    (ready0 m) (fun c => semVal (bar 0 c) 0) (awake0 m) (fun c => semVal (bar 0 c) 0) (open0 m) (enter0 m) (leave0 m)
    (fun c => by iintro H; imodintro; iexact H)
    (fun _ => 0) ⟨fun _ w => w.elim0, fun _ w => w.elim0, fun c t g i h => cut0 m c t g i h⟩
    (ready1 m) (fun _ w => w.elim0) (fun _ w => w.elim0)

theorem reg0_pre (c : Dev nD) : (state0 m c : sProp 𝕄) ⊢ (reg0 m).pre c := by
  show _ ⊢ iprop(StableHlo.held (c.tc : Thread nD τ) (Pipeline.arrRefs (τ := τ) cfg0.spec) (W0 m c) ∗ prng c
    ∗ (heldAll c (W0 m c) ∗ ready1 m c) ∗ ready0 m c ∗ ∃ Wd, owes (c : Thread nD τ) (owe (dues1 c) + owe (dues0 c)) Wd)
  rw [held_no_arr, ← owe_append]
  unfold state0 owing
  iintro ⟨Hh, Hp, H0, H1, HO⟩
  isplitr; · iempintro
  isplitl [Hp]; · iexact Hp
  isplitl [Hh H1]; · isplitl [Hh] <;> iassumption
  isplitl [H0] <;> iassumption

theorem reg0_post (c : Dev nD) : (reg0 m).post c ⊢ (state1 m c : sProp 𝕄) := by
  show iprop(StableHlo.held (c.tc : Thread nD τ) (Pipeline.arrRefs (τ := τ) cfg0.spec) (W1 m c) ∗ prng c
    ∗ (heldAll c (W1 m c) ∗ ready1 m c) ∗ semVal (bar 0 c) 0 ∗ ∃ Wd, owes (c : Thread nD τ) (owe (dues1 c)) Wd) ⊢ _
  unfold state1 owing
  iintro ⟨-, Hp, ⟨Hh, H1⟩, Hv, HO⟩
  isplitl [Hh]; · iexact Hh
  isplitl [Hp]; · iexact Hp
  isplitl [Hv]; · iexact Hv
  isplitl [H1] <;> iassumption

/-! ## The second call -/

theorem enter1 (c : Dev nD) : iprop(bufs1 c ∗ prng c ∗ StableHlo.held (c.tc : Thread nD τ) used1 (W1 m c) ∗ awake1 m c) ⊢ (before1 m c : sProp 𝕄) := by
  rw [held_used1, W1_g]; unfold before1
  iintro ⟨Hb, Hp, Hg, Ha⟩
  isplitl [Ha]; · iexact Ha
  isplitl [Hg]; · iexact Hg
  isplitl [Hb] <;> iassumption

theorem leave1 (c : Dev nD) : (after1 m c : sProp 𝕄) ⊢ iprop(bufs1 c ∗ prng c ∗ StableHlo.held (c.tc : Thread nD τ) used1 (W2 m c) ∗ Pipeline.ownSems0 osem1 c ∗ semVal (bar 1 c) 0) := by
  rw [held_used1, W2_g, own1]; unfold after1
  iintro ⟨⟨Hv, Hz⟩, Hg, Hb, Hp⟩
  isplitl [Hb]; · iexact Hb
  isplitl [Hp]; · iexact Hp
  isplitl [Hg]; · iexact Hg
  isplitl [Hz] <;> iassumption

set_option backward.isDefEq.respectTransparency.types false in
def reg1 : RegionSeg (pcfgs (F := F)) adm (pdats m) () defs₀ 𝒱₀ L lv 1 :=
  RegionSeg.ofTalk (pcfgs (F := F)) adm (pdats m) () defs₀ 𝒱₀ L lv 1 osem1 own_facts1
    used1 unscoped used1_sub kit1 rfl (fun c => (body1 m c).loose)
    (fun _ => 0) (fun c => owe (dues1 c)) (fun c => (zero_add _).symm) (fun c => rfl) (fun _ => rfl) (fun _ w => w.elim0)
    (W1 m) (W2 m) (fun c b hb => W2_other m c b fun e => (Finset.mem_sdiff.mp hb).2 (by rw [e]; decide))
    (ready1 m) (fun c => semVal (bar 1 c) 0) (awake1 m) (fun c => semVal (bar 1 c) 0) (open1 m) (enter1 m) (leave1 m)
    (fun c => by iintro H; imodintro; iexact H)
    (fun _ => 0) ⟨fun _ w => w.elim0, fun _ w => w.elim0, fun c t g i h => cut1 m c t g i h⟩
    (fun c => semVal (bar 0 c) 0) (fun _ w => w.elim0) (fun _ w => w.elim0)

theorem reg1_pre (c : Dev nD) : (state1 m c : sProp 𝕄) ⊢ (reg1 m).pre c := by
  show _ ⊢ iprop(StableHlo.held (c.tc : Thread nD τ) (Pipeline.arrRefs (τ := τ) cfg1.spec) (W1 m c) ∗ prng c
    ∗ (heldAll c (W1 m c) ∗ semVal (bar 0 c) 0) ∗ ready1 m c ∗ ∃ Wd, owes (c : Thread nD τ) (0 + owe (dues1 c)) Wd)
  rw [held_no_arr, zero_add]
  unfold state1 owing
  iintro ⟨Hh, Hp, Hv, H1, HO⟩
  isplitr; · iempintro
  isplitl [Hp]; · iexact Hp
  isplitl [Hh Hv]; · isplitl [Hh] <;> iassumption
  isplitl [H1] <;> iassumption

theorem reg1_post (c : Dev nD) : (reg1 m).post c ⊢ (state2 m c : sProp 𝕄) := by
  show iprop(StableHlo.held (c.tc : Thread nD τ) (Pipeline.arrRefs (τ := τ) cfg1.spec) (W2 m c) ∗ prng c
    ∗ (heldAll c (W2 m c) ∗ semVal (bar 0 c) 0) ∗ semVal (bar 1 c) 0 ∗ ∃ Wd, owes (c : Thread nD τ) 0 Wd) ⊢ _
  unfold state2 owing
  iintro ⟨-, Hp, ⟨Hh, H0⟩, Hv, HO⟩
  isplitl [Hh]; · iexact Hh
  isplitl [Hp]; · iexact Hp
  isplitl [H0]; · iexact H0
  isplitl [Hv]; · iexact Hv
  iexact HO

/-! ## The product -/

/-- What the product leaves alone. -/
def beside (c : Dev nD) : sProp 𝕄 :=
  iprop(StableHlo.held (c.tc : Thread nD τ) (unscoped \ Pipeline.arrRefs (τ := τ) spec2) (W2 m c) ∗ semVal (bar 0 c) 0 ∗ semVal (bar 1 c) 0)

omit [FloatOps F] in
theorem cut2 : Pipeline.LevelCut (pcfgs (F := F)) adm () L lv 2 (fun _ => 0) (fun _ => 0) where
  hι c w s := by rw [L_tc]; exact Finset.mem_singleton_self _
  hιb c w s := by
    show lvl (.dma (((Pipeline.pin (pcfgs (F := F)) adm 2).win w).sem s)) ≤ 0
    revert s; revert w; exact (by decide : ∀ (w : Fin 3) (s : Fin (spec2 w).nbuf), lvl (.dma ((spec2 w).sem s)) ≤ 0)
  hD c g i h := absurd h (Nat.lt_irrefl 0)

theorem arrs_in (c : Dev nD) (w : Fin 3) : (dat2 m c).arrAt w cfg2.N = W3 m c (Proc.devRef .tc (Pipeline.arrRef spec2 w)) := by
  match w with
  | ⟨0, _⟩ => exact ((dat2 m c).arrAt_in 0 rfl _).trans (W3_other m c rG (by decide)).symm
  | ⟨1, _⟩ => exact ((dat2 m c).arrAt_in 1 rfl _).trans (W3_other m c rW (by decide)).symm
  | ⟨2, _⟩ => exact (W3_y m c).symm

set_option backward.isDefEq.respectTransparency.types false in
def reg2 : RegionSeg (pcfgs (F := F)) adm (pdats m) () defs₀ 𝒱₀ L lv 2 :=
  RegionSeg.ofHeld (pcfgs (F := F)) adm (pdats m) () defs₀ 𝒱₀ L lv 2 (fun _ => 0) prng prng kit2 rfl (fun c => (body2 m c).loose)
    (fun _ _ => rfl) (fun _ => rfl) (fun c w => by show (if _ then _ else _) = _; split <;> rfl)
    (fun c => by
      show iprop(_ ∗ prng c) ⊢ prng c
      iintro ⟨-, H⟩; iexact H)
    (fun c => by
      show prng c ⊢ iprop(Pipeline.scopedRest spec2 c ∗ prng c)
      rw [scopedRest2_eq]
      iintro H
      isplitr; · iempintro
      iexact H)
    (fun _ => 0) cut2 (beside m) (W2 m) (W3 m) (fun _ _ => rfl) (arrs_in m)

theorem reg2_pre (c : Dev nD) : (state2 m c : sProp 𝕄) ⊢ (reg2 m).pre c := by
  show _ ⊢ iprop(StableHlo.held (c.tc : Thread nD τ) (Pipeline.arrRefs (τ := τ) spec2) (W2 m c) ∗ prng c ∗ beside m c ∗ ∃ Wd, owes (c : Thread nD τ) 0 Wd)
  unfold state2 owing heldAll beside
  rw [StableHlo.held_sub_split (c.tc : Thread nD τ) arr_sub]
  iintro ⟨⟨Ha, Hr⟩, Hp, H0, H1, HO⟩
  isplitl [Ha]; · iexact Ha
  isplitl [Hp]; · iexact Hp
  isplitl [Hr H0 H1]
  · isplitl [Hr]; · iexact Hr
    isplitl [H0] <;> iassumption
  iexact HO

theorem reg2_post (c : Dev nD) : (reg2 m).post c ⊢ (state3 m c : sProp 𝕄) := by
  show iprop(StableHlo.held (c.tc : Thread nD τ) (Pipeline.arrRefs (τ := τ) spec2) (W3 m c) ∗ prng c ∗ beside m c ∗ ∃ Wd, owes (c : Thread nD τ) 0 Wd) ⊢ _
  unfold state3 owing heldAll beside
  rw [StableHlo.held_sub_split (c.tc : Thread nD τ) arr_sub,
    show StableHlo.held (c.tc : Thread nD τ) (unscoped \ Pipeline.arrRefs (τ := τ) spec2) (W3 m c)
        = (StableHlo.held (c.tc : Thread nD τ) (unscoped \ Pipeline.arrRefs (τ := τ) spec2) (W2 m c) : sProp 𝕄) from by
      unfold StableHlo.held
      exact bigSep_congr fun b hb => by rw [W3_other m c b fun e => (Finset.mem_sdiff.mp hb).2 (by rw [e]; decide)]]
  iintro ⟨Ha, Hp, ⟨Hr, H0, H1⟩, HO⟩
  isplitl [Ha Hr]; · isplitl [Ha] <;> iassumption
  isplitl [Hp]; · iexact Hp
  isplitl [H0]; · iexact H0
  isplitl [H1]; · iexact H1
  iexact HO

end Cert.KernelIdeal.Talk

end
-- ==== Proof.KernelIdeal.Deal.lean ====
/-
  What the start of the program deals to the devices: the tokens of the duties each pays, and the credit each waits for.
-/
module

public import proofs.«01_k».proof.Proof.KernelIdeal.Regions

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

local notation "𝕄" => MT nD τ sig Unit (Elt F) ℕ UU ℕ

/-! ## The duties' tokens -/

/-- The seventeen duties that a device pays: on which semaphore, -/
def paySem : Fin 17 → SemLoc sig :=
  ![.reg 0, .reg 0, .dma 0, .dma 1, .dma 2, .dma 3, .dma 4, .dma 5, .dma 6, .dma 7, .dma 8, .reg 1, .reg 1, .dma 9, .dma 10, .dma 11, .dma 12]
/-- which of the round's duties, -/
def paySide : Fin 17 → Bool :=
  ![true, false, false, false, false, false, false, false, false, false, false, true, false, false, false, false, false]
/-- and whose. -/
def payTo : Fin 17 → (Dev nD ≃ Dev nD) :=
  ![toLeft, toRight, .refl _, .refl _, .refl _, .refl _, .refl _, toRight, toRight, toLeft, toLeft, toLeft, toRight, .refl _, .refl _, toRight, toLeft]

theorem pay_inj : Function.Injective fun k : Fin 17 => (paySem k, paySide k) := by decide

def payEmb : Dev nD × Fin 17 ↪ GSem nD τ sig × ℕ × Bool :=
  ⟨fun p => (((payTo p.2 p.1 : Thread nD τ), paySem p.2), 0, paySide p.2), fun p q h => by
    have hk : p.2 = q.2 := pay_inj (Prod.ext (congrArg (fun t : GSem nD τ sig × ℕ × Bool => t.1.2) h)
      (congrArg (fun t : GSem nD τ sig × ℕ × Bool => t.2.2) h))
    have hc : payTo p.2 p.1 = payTo q.2 q.1 := congrArg (fun t : GSem nD τ sig × ℕ × Bool => t.1.1.1) h
    rw [hk] at hc
    exact Prod.ext ((payTo q.2).injective hc) hk⟩
def payToks : Finset (GSem nD τ sig × ℕ × Bool) := Finset.univ.map payEmb

theorem deal_toks :
    (bigSep payToks fun x => (dutyTok ER x.1 x.2.1 x.2.2 : sProp 𝕄)) ⊢ bigSep Finset.univ fun c : Dev nD => iprop(toks0 c ∗ toks1 c) := by
  unfold payToks
  rw [bigSep_map, bigSep_univ_prod]
  refine bigSep_mono fun c _ => ?_
  rw [bigSep_univ_eq_bigSepL [(0 : Fin 17), 1, 2, 3, 4, 5, 6, 7, 8, 9, 10, 11, 12, 13, 14, 15, 16] (by decide) (by decide)]
  show iprop(dutyTok ER (bar 0 (lf c)) 0 true ∗ dutyTok ER (bar 0 (rt c)) 0 false ∗ tok 0 c ∗ tok 1 c ∗ tok 2 c ∗ tok 3 c ∗ tok 4 c
    ∗ tok 5 (rt c) ∗ tok 6 (rt c) ∗ tok 7 (lf c) ∗ tok 8 (lf c)
    ∗ dutyTok ER (bar 1 (lf c)) 0 true ∗ dutyTok ER (bar 1 (rt c)) 0 false ∗ tok 9 c ∗ tok 10 c ∗ tok 11 (rt c) ∗ tok 12 (lf c)) ⊢ _
  unfold toks0 toks1
  iintro ⟨B0, B1, T0, T1, T2, T3, T4, T5, T6, T7, T8, H⟩
  isplitr [H]
  · isplitl [B0]; · iexact B0
    isplitl [B1]; · iexact B1
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7] <;> iassumption
  iexact H

/-! ## The credit -/

/-- All that a device owes at the start. -/
def O₀ (c : Dev nD) : CellTallies nD τ sig Unit := owe (dues0 c ++ dues1 c)

theorem owe_at (g : GSem nD τ sig) : ∀ l : List (GSem nD τ sig × ℕ), owe l g () = (l.map fun p => if g = p.1 then p.2 else 0).sum
  | [] => rfl
  | p :: l => by
    show (owe l + tallyAt p.1 () p.2) g () = _
    rw [Pi.add_apply, Finsupp.add_apply, owe_at g l, tallyAt_apply, List.map_cons, List.sum_cons, add_comm]
    simp only [and_true]

/-- What a device is owed on a semaphore, over all devices. -/
theorem owed_total (c : Dev nD) (sm : SemLoc sig) :
    ∑ d : Dev nD, O₀ d ((c : Thread nD τ), sm) ()
      = ∑ d : Dev nD, ((dues0 d ++ dues1 d).map fun p => if ((c : Thread nD τ), sm) = p.1 then p.2 else 0).sum :=
  Finset.sum_congr rfl fun d _ => owe_at _ _

def waitSem : Fin 8 → SemLoc sig := ![.reg 0, .reg 1, .dma 5, .dma 6, .dma 7, .dma 8, .dma 11, .dma 12]
def waitAmt : Fin 8 → ℕ := ![2, 2, amt 5, amt 6, amt 7, amt 8, amt 11, amt 12]
theorem wait_inj : Function.Injective waitSem := by decide

theorem wait_total (k : Fin 8) (c : Dev nD) : ∑ d : Dev nD, O₀ d ((c : Thread nD τ), waitSem k) () = waitAmt k := by
  rw [owed_total]
  revert k c
  decide +kernel

theorem launch_at (k : Fin 8) (c : Dev nD) :
    tallyOn ((c : Thread nD τ), waitSem k) (launchCredit (Pipeline.owing O₀) 0 ((c : Thread nD τ), waitSem k))
      = (tallyAt ((c : Thread nD τ), waitSem k) () (waitAmt k) : CellTallies nD τ sig Unit) := by
  unfold tallyAt
  refine congrArg _ (Finsupp.ext fun u => ?_)
  cases u
  rw [Pipeline.launchCredit_owing, Finsupp.single_eq_same]
  exact wait_total k c

theorem deal_creds (c : Dev nD) : (Pipeline.launchCred O₀ c : sProp 𝕄) ⊢ iprop(creds0 c ∗ creds1 c) := by
  unfold Pipeline.launchCred
  refine (bigSep_subset (Finset.subset_univ (Finset.univ.map ⟨waitSem, wait_inj⟩))).trans ?_
  rw [bigSep_map]
  refine (Entails.of_eq (bigSep_congr (s := Finset.univ)
      (Ψ := fun k : Fin 8 => (cred (tallyAt ((c : Thread nD τ), waitSem k) () (waitAmt k)) : sProp 𝕄)) fun k _ => congrArg cred (launch_at k c))).trans ?_
  rw [bigSep_univ_eq_bigSepL [(0 : Fin 8), 1, 2, 3, 4, 5, 6, 7] (by decide) (by decide)]
  show iprop(cred (tallyAt (bar 0 c) () 2) ∗ cred (tallyAt (bar 1 c) () 2) ∗ cred (tallyAt (dma 5 c) () (amt 5)) ∗ cred (tallyAt (dma 6 c) () (amt 6))
    ∗ cred (tallyAt (dma 7 c) () (amt 7)) ∗ cred (tallyAt (dma 8 c) () (amt 8))
    ∗ cred (tallyAt (dma 11 c) () (amt 11)) ∗ cred (tallyAt (dma 12 c) () (amt 12))) ⊢ _
  unfold creds0 creds1
  iintro ⟨B0, B1, C5, C6, C7, C8, C11, C12⟩
  isplitl [B0 C5 C6 C7 C8]
  · isplitl [B0]; · iexact B0
    isplitl [C5]; · iexact C5
    isplitl [C6]; · iexact C6
    isplitl [C7] <;> iassumption
  isplitl [B1]; · iexact B1
  isplitl [C11] <;> iassumption

/-! ## Positions and sleeping semaphores -/

theorem disjoint_cells : Disjoint (barCells : Finset (GSem nD τ sig)) scCells := by
  rw [Finset.disjoint_left]
  intro g h h'
  obtain ⟨p, -, rfl⟩ := Finset.mem_map.mp h
  obtain ⟨q, -, hq⟩ := Finset.mem_map.mp h'
  have e : (SemLoc.dma (tr q.2) : SemLoc sig) = .reg p.2 := congrArg Prod.snd hq
  cases e

/-- A family over the barriers, device by device. -/
theorem over_bars (Φ : GSem nD τ sig → sProp 𝕄) : bigSep barCells Φ = bigSep Finset.univ fun c : Dev nD => iprop(Φ (bar 0 c) ∗ Φ (bar 1 c)) := by
  unfold barCells
  rw [bigSep_map, bigSep_univ_prod]
  exact bigSep_congr fun c _ => bigSep_univ_eq_bigSepL [(0 : Fin 2), 1] (by decide) (by decide) fun b => Φ (barEmb (c, b))

theorem deal_asleep :
    bigSep scCells (fun g => (openTok ER g : sProp 𝕄)) ⊢ bigSep Finset.univ fun c : Dev nD => iprop(asleep0 c ∗ asleep1 c) := by
  unfold scCells
  rw [bigSep_map, bigSep_univ_prod]
  refine bigSep_mono fun c _ => ?_
  rw [bigSep_univ_eq_bigSepL [(0 : Fin 13), 1, 2, 3, 4, 5, 6, 7, 8, 9, 10, 11, 12] (by decide) (by decide)]
  show iprop(asleep 0 c ∗ asleep 1 c ∗ asleep 2 c ∗ asleep 3 c ∗ asleep 4 c ∗ asleep 5 c ∗ asleep 6 c ∗ asleep 7 c ∗ asleep 8 c
    ∗ asleep 9 c ∗ asleep 10 c ∗ asleep 11 c ∗ asleep 12 c) ⊢ _
  unfold asleep0 asleep1
  iintro ⟨A0, A1, A2, A3, A4, A5, A6, A7, A8, H⟩
  isplitr [H]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7] <;> iassumption
  iexact H

theorem barriers_eq (c : Dev nD) : (unscopedSems0 c : sProp 𝕄) = iprop(semVal (bar 0 c) 0 ∗ semVal (bar 1 c) 0) := by
  unfold unscopedSems0
  rw [show (Finset.univ.filter fun sm : SemLoc sig => ¬ sm.isScoped .tc) = {SemLoc.reg 0, SemLoc.reg 1} from by decide,
    bigSep_insert (by decide), bigSep_singleton]
  rfl

theorem unscoped_sems : ∀ sm : SemLoc sig, sm.isScoped .tc = false → sm = .reg 0 ∨ sm = .reg 1 := by decide

end Cert.KernelIdeal.Talk

end
-- ==== Proof.KernelIdeal.Launch.lean ====
/-
  The whole program: from any memory it runs to its end, where every buffer holds what the last state says and every counter is zero.
-/
module

public import proofs.«01_k».proof.Proof.KernelIdeal.Deal
public import Idealize.ShloMosaic.Lib.Quiescent

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)
open Cert.KernelIdeal Cert.KernelIdeal.Gen

variable {F : FTy → Type} [FloatOps F] (m : (ℓ : Loc nD τ sig) → Buf (Elt F) ℓ) (ρ : Dev nD → PrngReg)

local notation "𝕄" => MT nD τ sig Unit (Elt F) ℕ UU ℕ

/-! ## Families of pairs -/

omit [FloatOps F] in
theorem apart (Φ Ψ : Dev nD → sProp 𝕄) :
    (bigSep Finset.univ fun c => iprop(Φ c ∗ Ψ c)) ⊢ iprop(bigSep Finset.univ Φ ∗ bigSep Finset.univ Ψ) := Entails.of_eq (bigSep_sep' _ Φ Ψ)
omit [FloatOps F] in
theorem together (Φ Ψ : Dev nD → sProp 𝕄) :
    iprop(bigSep Finset.univ Φ ∗ bigSep Finset.univ Ψ) ⊢ bigSep Finset.univ fun c => iprop(Φ c ∗ Ψ c) := Entails.of_eq (bigSep_sep' _ Φ Ψ).symm

/-! ## Before the first call -/

def u₀ : UU :=
  (initOf (Pipeline.cells (Pipeline.pin (pcfgs (F := F)) adm) cellOf_inj) (Pipeline.launchToks (Pipeline.pin (pcfgs (F := F)) adm) cellOf_inj),
    launchOf barCells scCells payToks)

/-- The protocol's start, whole. -/
def start : sProp 𝕄 := BI.own (ER (launchOf barCells scCells payToks))
/-- It is kept on device 0 until it is dealt. -/
def parked (c : Dev nD) : sProp 𝕄 := if c = 0 then start else iprop(emp)

omit [FloatOps F] in
theorem parked_all : bigSep Finset.univ (parked (F := F)) = (start : sProp 𝕄) := by
  rw [bigSep_univ_eq_bigSepL [(0 : Dev nD), 1, 2, 3] (by decide) (by decide)]
  show iprop(start ∗ emp ∗ emp ∗ emp) = _
  exact same ⟨by iintro ⟨H, -⟩; iexact H, by
    iintro H
    isplitl [H]; · iexact H
    isplitr; · iempintro
    isplitr <;> iempintro⟩

/-- What of a device's start is dealt from the protocol's, -/
def dealt (c : Dev nD) : sProp 𝕄 := iprop((atPos ER (bar 0 c) 0 ∅ 0 ∗ atPos ER (bar 1 c) 0 ∅ 0) ∗ (asleep0 c ∗ asleep1 c) ∗ (toks0 c ∗ toks1 c))
/-- and what it holds anyway. -/
def given (c : Dev nD) : sProp 𝕄 := iprop(heldAll c (W0 m c) ∗ prng c ∗ (creds0 c ∗ creds1 c) ∗ owing c (dues0 c ++ dues1 c))

omit [FloatOps F] in
theorem begin (K : GSem nD τ sig → ℕ) (c : Dev nD) : iprop(records m K ∗ (dealt c ∗ given m c)) ⊢ (state0 m c : sProp 𝕄) := by
  unfold dealt given state0 ready0 ready1 hold0 hold1
  iintro ⟨#HR, ⟨⟨B0, B1⟩, ⟨A0, A1⟩, T0, T1⟩, Hh, Hp, ⟨C0, C1⟩, HO⟩
  isplitl [Hh]; · iexact Hh
  isplitl [Hp]; · iexact Hp
  isplitl [T0 C0 B0 A0]
  · isplitr [A0]
    · isplitr; · iexists K; iexact HR
      isplitl [T0]; · iexact T0
      isplitl [C0] <;> iassumption
    iexact A0
  isplitl [T1 C1 B1 A1]
  · isplitr [A1]
    · isplitr; · iexists K; iexact HR
      isplitl [T1]; · iexact T1
      isplitl [C1] <;> iassumption
    iexact A1
  iexact HO

omit [FloatOps F] in
theorem given_intro (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(given m c ∗ ((semVal (bar 0 c) 0 ∗ semVal (bar 1 c) 0) ∗ parked c)) : sProp 𝕄) := by
  rw [show unscopedBufs c (fun b => m ((c : Thread nD τ).loc b)) = (heldAll c (W0 m c) : sProp 𝕄) from
    Pipeline.unscopedBufs_held (Ix := Unit) (Name := ℕ) (U := UU) (Lvl := ℕ) c (W0 m c), barriers_eq]
  unfold given owing
  iintro ⟨Hh, Hv, HO, Hc, Hp, HG⟩
  ihave Hc' := (deal_creds (F := F) c) $$ Hc
  isplitl [Hh HO Hc' Hp]
  · isplitl [Hh]; · iexact Hh
    isplitl [Hp]; · iexists ρ c; iexact Hp
    isplitl [Hc']; · iexact Hc'
    iexists ∅; iexact HO
  isplitl [Hv] <;> iassumption

omit [FloatOps F] in
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (state0 m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (bigSep Finset.univ fun c : Dev nD => iprop(given m c ∗ ((semVal (bar 0 c) 0 ∗ semVal (bar 1 c) 0) ∗ parked c)) : sProp 𝕄) from
    bigSep_mono fun c _ => given_intro m ρ c) $$ H
  ihave H2 := (apart _ _) $$ H'; icases H2 with ⟨HB, H3⟩
  ihave H4 := (apart _ _) $$ H3; icases H4 with ⟨Hv, HG⟩
  ihave Hu := (Entails.of_eq (parked_all (F := F))) $$ HG
  imod (Rounds.fund_launch ER (rd m) disjoint_cells (fun g _ h => h) payToks) $$ [Hv Hu] with ⟨%K, -, #Hinv, #Hr, Hat, Hopen, Htok⟩
  · isplitl [Hv]
    · iapply (Entails.of_eq (over_bars (F := F) (fun g => semVal g 0)).symm) $$ Hv
    · unfold start; iexact Hu
  imodintro
  iapply (bigSep_with_persistent (R := records m K) (Φ := fun c => iprop(dealt c ∗ given m c)) fun c _ => begin m K c)
  isplitr
  · unfold records
    isplitr; · iexact Hinv
    iexact Hr
  iapply (together _ _)
  isplitr [HB]
  · unfold dealt
    iapply (together _ _)
    isplitl [Hat]; · iapply (Entails.of_eq (over_bars (F := F) (fun g => atPos ER g 0 ∅ 0))) $$ Hat
    iapply (together _ _)
    isplitl [Hopen]; · iapply (deal_asleep (F := F)) $$ Hopen
    iapply (deal_toks (F := F)) $$ Htok
  · iexact HB

/-! ## The run -/

/-- A device's last state, the empty debt aside. -/
def last (c : Dev nD) : sProp 𝕄 := iprop(heldAll c (W3 m c) ∗ semVal (bar 0 c) 0 ∗ semVal (bar 1 c) 0)

/-- What is read off the last state. -/
def Final (c : Dev nD) (s : MemSt nD τ sig (Elt F)) : Prop :=
  (∀ b ∈ unscoped, s.mem (c, b) = W3 m c b) ∧ s.sem (bar 0 c) = 0 ∧ s.sem (bar 1 c) = 0

theorem read_last (c : Dev nD) (s' : Phys nD τ sig (Elt F)) :
    iprop(last m c ∗ SI s') ⊢ (|={Set.univ}=> iprop(⌜Final m c s'.mem⌝ ∗ SI s') : sProp 𝕄) := by
  unfold last heldAll StableHlo.held
  iintro ⟨⟨Hh, H0, H1⟩, HSI⟩
  icombine HSI H0 gives %h0
  icombine HSI H1 gives %h1
  ihave Hr := (pointsTo_read_all unscoped (fun b => ((c : Thread nD τ).1, b)) (W3 m c) s') $$ [Hh HSI]
  · isplitl [Hh] <;> iassumption
  icases Hr with ⟨%h, HSI⟩
  imodintro
  isplitr
  · ipureintro; exact ⟨h, by simpa using h0, by simpa using h1⟩
  iexact HSI

set_option backward.isDefEq.respectTransparency.types false in
theorem run_main : θ_run defs (onTc (τ := τ) (main (F := F))) ⟨m, fun _ => 0, ρ⟩
    (fun r => (∀ (c : Dev nD), ∀ b ∈ unscoped, r.2.mem (c, b) = W3 m c b) ∧ r.2.sem = fun _ => 0) :=
  Pipeline.θ_run_regions_kit_sems (pcfgs (F := F)) adm (pdats m) () cellOf_inj EP defs₀ 𝒱₀ L lv m ρ main
    [.region (reg0 m), .region (reg1 m), .region (reg2 m)]
    (fun c Q => by rw [main_segs adm (pdats m) () 𝒱₀ L lv (reg0 m) (reg1 m) (reg2 m) c])
    (by simp only [Seg.pipes_region, Seg.pipes_nil]; decide)
    (O₀ := O₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [parked_all]; unfold start; iexact HX)
    (T₀ := state0 m) (Tₙ := last m)
    (hch := by
      refine ⟨fun c => reg0_pre m c, fun c => (reg0_post m c).trans (reg1_pre m c), fun c => (reg1_post m c).trans (reg2_pre m c),
        fun c => (reg2_post m c).trans ?_⟩
      unfold state3 last owing
      iintro ⟨Hh, -, H0, H1, HO⟩
      isplitr [HO]
      · isplitl [Hh]; · iexact Hh
        isplitl [H0] <;> iassumption
      · iexact HO)
    (hinit := init m ρ) (QY := Final m) (hfin := read_last m)
    (hQ := fun s h hs => ⟨fun c b hb => (h c).1 b hb, sem_eq_zero hs fun c sm hsm => by
      rcases unscoped_sems sm hsm with rfl | rfl
      · exact (h c).2.1
      · exact (h c).2.2⟩)

end Cert.KernelIdeal.Talk

end
-- ==== Proof.KernelIdeal.Result.lean ====
/-
  What the run leaves behind: the result, the arguments as they were, and every counter zero.
-/
module

public import proofs.«01_k».proof.Proof.KernelIdeal.Launch

@[expose] public section

noncomputable section

namespace Cert.KernelIdeal.Talk

open Idealize.ShloMosaic
open Idealize.ShloMosaic.TcCoe
open Idealize.SL.Sem
open Cert.KernelIdeal Cert.KernelIdeal.Gen

variable {F : FTy → Type} [FloatOps F] (m : (ℓ : Loc nD τ sig) → Buf (Elt F) ℓ) (ρ : Dev nD → PrngReg)

/-- A buffer that no call writes ends as it started. -/
theorem W3_kept (c : Dev nD) (b : DevRef τ sig) (hg : b ≠ rG) (hy : b ≠ rY) : W3 m c b = m (c, b) :=
  (W3_other m c b hy).trans ((W2_other m c b hg).trans (W1_other m c b hg))

theorem run_result : θ_run defs (onTc (τ := τ) (main (F := F))) ⟨m, fun _ => 0, ρ⟩
    (fun r => (∀ c : Dev nD, r.2.mem ((c.tc : Thread nD τ).loc main_v3) = outX m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c rY (by decide)).trans (W3_y m c),
      (h.1 c rX (by decide)).trans (W3_kept m c rX (by decide) (by decide)),
      (h.1 c rW (by decide)).trans (W3_kept m c rW (by decide) (by decide))⟩, h.2⟩) (run_main m ρ)

end Cert.KernelIdeal.Talk

end
-- ==== Proof.KernelIdeal.Value.lean ====
/-
  What the result holds over exact arithmetic: entry (r, j) of a device's result is `y · logistic y`, where `y` is the product of
  row `r` of the gathered array and column `j` of the device's weights.
-/
module

public import proofs.«01_k».proof.Proof.KernelIdeal.Launch
public import Idealize.ShloMosaic.Lib.Pipeline.Value
public import Idealize.ShloMosaic.Lib.MatmulPlain

@[expose] public section

noncomputable section

namespace Cert.KernelIdeal.Talk

open Idealize.ShloMosaic
open Idealize.ShloMosaic.TcCoe
open Idealize.SL Idealize.SL.RA Idealize.SL.BI
open Cert.KernelIdeal Cert.KernelIdeal.Gen

/-- The product of a number and its logistic. -/
def act (s : EReal) : EReal := s * Ideal.logistic s

/-- The product of row `r` of the left matrix and column `j` of the right one. -/
def rowCol {M K N : ℕ} (A : (⟨2, ![M, K]⟩ : Shape).Idx → EReal) (B : (⟨2, ![K, N]⟩ : Shape).Idx → EReal) (r : Fin M) (j : Fin N) : EReal :=
  ∑ k : Fin K, A (ValueIdx.ix2 r k) * B (ValueIdx.ix2 k j)

/-- The body of the product: at each entry, the activation of the product of a row and a column. -/
theorem pay_at (a : S512x4096.Idx → EReal) (b : S4096x512.Idx → EReal) (i : S512x512.Idx) :
    k2_pay1 (F := Ideal) a b i = act (rowCol a b (i 0) (i 1)) := by
  have hs : FloatOps.matmul (F := Ideal) dot_S512x4096_S4096x512_S512x512_1_0_0_1_n_n none
      (truncf .bf16 (shapeCast S512x4096 a shapeCasts_S512x4096_S512x4096 : FVec Ideal S512x4096 .f32) bitsLt_bf16_f32)
      (truncf .bf16 (shapeCast S4096x512 b shapeCasts_S4096x512_S4096x512 : FVec Ideal S4096x512 .f32) bitsLt_bf16_f32)
      (constant S512x512 .f32 0x00000000#32) i = rowCol a b (i 0) (i 1) := by
    rw [show dot_S512x4096_S4096x512_S512x512_1_0_0_1_n_n = DotDims.plain 512 4096 512 from rfl, shapeCast_self, shapeCast_self]
    conv_lhs => rw [ValueIdx.eq_ix2 (n0 := 512) (n1 := 512) i]
    refine (Ideal.matmul_plain_apply (M := 512) (K := 4096) (N := 512) none _ _ _ (i 0) (i 1)).trans ?_
    rw [show (constant (F := Ideal) S512x512 .f32 0x00000000#32 : FVec Ideal S512x512 .f32) (ValueIdx.ix2 (i 0) (i 1)) = 0 from Ideal.ofBits_zero_f32, zero_add]
    rfl
  show FloatOps.matmul (F := Ideal) dot_S512x4096_S4096x512_S512x512_1_0_0_1_n_n none _ _ _ i
    * Ideal.logistic (FloatOps.matmul (F := Ideal) dot_S512x4096_S4096x512_S512x512_1_0_0_1_n_n none _ _ _ i) = _
  rw [hs]
  rfl

/-! ## The blocks of the grid -/

/-- Where each window stands at a point: rows by the quarter of the point's number, columns by the remainder. -/
theorem stands : ∀ t : Fin cfg2.N,
    (win2_0.index t 0 * win2_0.size 0 = t.val / 4 * 512 ∧ win2_0.index t 1 * win2_0.size 1 = 0)
    ∧ (win2_1.index t 0 * win2_1.size 0 = 0 ∧ win2_1.index t 1 * win2_1.size 1 = t.val % 4 * 512)
    ∧ (win2_2.index t 0 * win2_2.size 0 = t.val / 4 * 512 ∧ win2_2.index t 1 * win2_2.size 1 = t.val % 4 * 512)
    ∧ (win2_2.xsize (grid2.coords t) 0 = 512 ∧ win2_2.xsize (grid2.coords t) 1 = 512) := by
  decide +kernel

variable (m : (ℓ : Loc nD τ sig) → Buf (Elt Ideal) ℓ)

/-- The weights of a device. -/
def wOf (c : Dev nD) : S4096x2048.Idx → EReal := m ((c : Thread nD τ).loc main_arg1)

/-- The whole result of a device. -/
def outG (c : Dev nD) : S4096x2048.Idx → EReal := fun i => act (rowCol (gX m) (wOf m c) (i 0) (i 1))

theorem W2_w (c : Dev nD) : W2 m c rW = wOf m c :=
  (W2_other m c rW (by decide)).trans (W1_other m c rW (by decide))

theorem lhs_at (c : Dev nD) (t : Fin cfg2.N) (i : S512x4096.Idx) (x : S4096x4096.Idx)
    (h0 : (x 0).val = t.val / 4 * 512 + (i 0).val) (h1 : (x 1).val = (i 1).val) : lhsAt m c t i = gX m x := by
  have e : ((cfg2.win 0).blk t).view.emb i = x := by
    funext a; apply Fin.ext
    match a with
    | ⟨0, _⟩ => exact (show win2_0.index t 0 * win2_0.size 0 + 1 * (i 0).val = (x 0).val by rw [(stands t).1.1, h0]; omega)
    | ⟨1, _⟩ => exact (show win2_0.index t 1 * win2_0.size 1 + 1 * (i 1).val = (x 1).val by rw [(stands t).1.2, h1]; omega)
  unfold lhsAt
  rw [View.read_apply, e, W2_g]
  rfl

theorem rhs_at (c : Dev nD) (t : Fin cfg2.N) (i : S4096x512.Idx) (x : S4096x2048.Idx)
    (h0 : (x 0).val = (i 0).val) (h1 : (x 1).val = t.val % 4 * 512 + (i 1).val) : rhsAt m c t i = wOf m c x := by
  have e : ((cfg2.win 1).blk t).view.emb i = x := by
    funext a; apply Fin.ext
    match a with
    | ⟨0, _⟩ => exact (show win2_1.index t 0 * win2_1.size 0 + 1 * (i 0).val = (x 0).val by rw [(stands t).2.1.1, h0]; omega)
    | ⟨1, _⟩ => exact (show win2_1.index t 1 * win2_1.size 1 + 1 * (i 1).val = (x 1).val by rw [(stands t).2.1.2, h1]; omega)
  unfold rhsAt
  rw [View.read_apply, e, W2_w]
  rfl

/-- What a point writes back is its block of the whole result. -/
theorem flushed2 (c : Dev nD) (t : Fin cfg2.N) : (dat2 m c).flushed 2 t = ((cfg2.win 2).blk t).view.read (Elt Ideal) (outG m c) := by
  funext i
  have e0 : (((cfg2.win 2).blk t).view.emb i 0).val = t.val / 4 * 512 + (i 0).val :=
    (show win2_2.index t 0 * win2_2.size 0 + 1 * (i 0).val = _ by rw [(stands t).2.2.1.1]; omega)
  have e1 : (((cfg2.win 2).blk t).view.emb i 1).val = t.val % 4 * 512 + (i 1).val :=
    (show win2_2.index t 1 * win2_2.size 1 + 1 * (i 1).val = _ by rw [(stands t).2.2.1.2]; omega)
  show k2_pay1 (F := Ideal) (lhsAt m c t) (rhsAt m c t) i = outG m c (((cfg2.win 2).blk t).view.emb i)
  rw [pay_at]
  refine congrArg act (Finset.sum_congr rfl fun k _ => congrArg₂ (· * ·) ?_ ?_)
  · exact lhs_at m c t _ _ e0 rfl
  · exact rhs_at m c t _ _ rfl e1

/-- Every entry of the result lies in the block of some point. -/
theorem cover2 (i : S4096x2048.Idx) : ∃ t : Fin cfg2.N, (cfg2.win 2).flush t = true ∧ i ∈ ((cfg2.win 2).blk t).view.set := by
  have h0 : (i 0).val < 4096 := (i 0).isLt
  have h1 : (i 1).val < 2048 := (i 1).isLt
  have hN : cfg2.N = 32 := N_2
  refine ⟨⟨(i 0).val / 512 * 4 + (i 1).val / 512, by omega⟩, flush2_2 _, ?_⟩
  generalize ht : (⟨(i 0).val / 512 * 4 + (i 1).val / 512, by omega⟩ : Fin cfg2.N) = t
  have hv : t.val = (i 0).val / 512 * 4 + (i 1).val / 512 := by rw [← ht]
  obtain ⟨-, -, ⟨a0, a1⟩, ⟨s0, s1⟩⟩ := stands t
  show i ∈ ((View.whole main_v3).slice (win2_2.rect t)).set
  rw [View.set_slice_whole, Rect.mem_set_unit]
  intro a
  match a with
  | ⟨0, _⟩ => show win2_2.index t 0 * win2_2.size 0 ≤ (i 0 : Nat) ∧ (i 0 : Nat) < win2_2.index t 0 * win2_2.size 0 + win2_2.xsize (grid2.coords t) 0
              rw [a0, s0]; omega
  | ⟨1, _⟩ => show win2_2.index t 1 * win2_2.size 1 ≤ (i 1 : Nat) ∧ (i 1 : Nat) < win2_2.index t 1 * win2_2.size 1 + win2_2.xsize (grid2.coords t) 1
              rw [a1, s1]; omega

/-- The result of a device, whole. -/
theorem outX_eq (c : Dev nD) : outX m c = outG m c :=
  (dat2 m c).arrAt_eq_of_cover 2 (outG m c) (fun t _ => flushed2 m c t) (cover2)

end Cert.KernelIdeal.Talk

end
-- ==== Proof.Whole.lean ====
/-
  The whole arrays: what the reference without the clip computes, entry by entry, and that a device's result is its block of it.
-/
module

public import proofs.«01_k».proof.Proof.KernelIdeal.Value
public import proofs.«01_k».proof.Proof.Gen.SiluIdeal
public import proofs.«01_k».proof.Proof.Gen.SiluIdeal.Run
public import Idealize.ShloMosaic.Lib.Layout
public import Idealize.ShloMosaic.Lib.StackMember
public import Idealize.ShloMosaic.PureOps.Ideal.Laws

@[expose] public section

noncomputable section

namespace Cert.Whole

open Idealize.ShloMosaic
open Idealize.ShloMosaic.TcCoe
open Cert.KernelIdeal.Talk (act rowCol gX wOf outG xOf)

/-! ## The activation -/

/-- An exponential is not negative. -/
theorem exp_nonneg (x : EReal) : 0 ≤ Ideal.exp x := by
  induction x with
  | bot => exact le_refl _
  | top => exact le_top
  | coe r => exact EReal.coe_nonneg.2 (Real.exp_pos r).le

/-- The divisor of the logistic is not zero. -/
theorem one_add_exp_ne (x : EReal) : 1 + Ideal.exp x ≠ 0 :=
  (lt_of_lt_of_le one_pos (le_add_of_nonneg_right (exp_nonneg x))).ne'

/-- A number times its logistic is the number divided by one plus the exponential of its opposite. -/
theorem act_eq (s : EReal) : act s = Ideal.div s (1 + Ideal.exp (-s)) := by
  unfold act Ideal.logistic Ideal.div
  rw [if_neg (one_add_exp_ne _), if_neg (one_add_exp_ne _), one_mul]

theorem ofBits_one : Ideal.ofBits .f32 0x3F800000#32 = 1 := by
  simp [Ideal.ofBits, Ideal.ieee]
  rw [← EReal.coe_mul]
  norm_num

/-! ## The reference -/

/-- The result of the whole program from whole arrays. -/
def whole (X : (⟨2, ![4096, 4096]⟩ : Shape).Idx → EReal) (W : (⟨2, ![4096, 8192]⟩ : Shape).Idx → EReal) :
    (⟨2, ![4096, 8192]⟩ : Shape).Idx → EReal := fun i => act (rowCol X W (i 0) (i 1))

/-- The product of the whole arrays at an entry. -/
theorem product_at (X : FVec Ideal ⟨2, ![4096, 4096]⟩ .f32) (W : FVec Ideal ⟨2, ![4096, 8192]⟩ .f32) (i : (⟨2, ![4096, 8192]⟩ : Shape).Idx) :
    Host.dotGeneral (DotDims.plain 4096 4096 8192) none X W i = rowCol X W (i 0) (i 1) := by
  conv_lhs => rw [ValueIdx.eq_ix2 (n0 := 4096) (n1 := 8192) i]
  exact StackMember.dotGeneral_plain_apply none X W (i 0) (i 1)

open Cert.SiluIdeal Cert.SiluIdeal.Gen in
/-- The printed expression of the reference without the clip is the whole result. -/
theorem silu_eq (X : FVec Ideal S4096x4096 .f32) (W : FVec Ideal S4096x8192 .f32) :
    Host.divf (Host.dotGeneral dot_S4096x4096_S4096x8192_S4096x8192_1_0_0_1_n_n none X W)
      (addf (broadcastInDim S4096x8192 ![] bcast_S_S4096x8192 (constant S_ .f32 0x3F800000#32))
        (Host.exp (Host.negf (Host.dotGeneral dot_S4096x4096_S4096x8192_S4096x8192_1_0_0_1_n_n none X W)))) = whole X W := by
  funext i
  show Ideal.div (Host.dotGeneral (DotDims.plain 4096 4096 8192) none X W i)
    (Ideal.ofBits .f32 0x3F800000#32 + Ideal.exp (-(Host.dotGeneral (DotDims.plain 4096 4096 8192) none X W i))) = _
  rw [product_at, ofBits_one]
  exact (act_eq _).symm

/-! ## The blocks of a device -/

variable (m : (ℓ : Loc Cert.KernelIdeal.nD Cert.KernelIdeal.τ Cert.KernelIdeal.sig) → Buf (Elt Ideal) ℓ)
  (X : (⟨2, ![4096, 4096]⟩ : Shape).Idx → EReal) (W : (⟨2, ![4096, 8192]⟩ : Shape).Idx → EReal)

/-- The gathered array is the whole left array. -/
theorem gX_whole (hx : ∀ c, xOf m c = Layout.block ⟨2, ![1024, 4096]⟩ ⟨2, ![4096, 4096]⟩ 0 4 c X) : gX m = X := by
  funext i
  have hi : (i 0).val < 4096 := (i 0).isLt
  let k : Fin 4 := ⟨(i 0).val / 1024, by omega⟩
  let j : (⟨2, ![1024, 4096]⟩ : Shape).Idx := ValueIdx.ix2 ⟨(i 0).val % 1024, Nat.mod_lt _ (by decide)⟩ (i 1)
  rw [Cert.KernelIdeal.Talk.gX_at m k i j (show (i 0).val = 1024 * ((i 0).val / 1024) + (i 0).val % 1024 by omega) rfl, hx]
  refine congrArg X (funext fun a => Fin.ext ?_)
  match a with
  | ⟨0, _⟩ => exact (show (i 0).val / 1024 * 1024 + (i 0).val % 1024 = (i 0).val by omega)
  | ⟨1, _⟩ => rfl

/-- The result of a device is its block of columns of the whole result. -/
theorem outG_block (hx : ∀ c, xOf m c = Layout.block ⟨2, ![1024, 4096]⟩ ⟨2, ![4096, 4096]⟩ 0 4 c X)
    (hw : ∀ c, wOf m c = Layout.block ⟨2, ![4096, 2048]⟩ ⟨2, ![4096, 8192]⟩ 1 4 c W) (c : Fin 4) :
    outG m c = Layout.block ⟨2, ![4096, 2048]⟩ ⟨2, ![4096, 8192]⟩ 1 4 c (whole X W) := by
  funext i
  unfold outG
  rw [gX_whole m X hx, hw]
  refine congrArg act (Finset.sum_congr rfl fun k _ => congrArg₂ (· * ·) ?_ ?_)
  · refine congrArg X (funext fun a => Fin.ext ?_)
    match a with
    | ⟨0, _⟩ => rfl
    | ⟨1, _⟩ => rfl
  · refine congrArg W (funext fun a => Fin.ext ?_)
    match a with
    | ⟨0, _⟩ => rfl
    | ⟨1, _⟩ => rfl

end Cert.Whole

end
-- ==== Proof.Bound.lean ====
/-
  Short rows and short columns: their product is at most 60 in size, so that the clip of the reference changes nothing.
-/
module

public import proofs.«01_k».proof.Proof.Whole
public import proofs.«01_k».proof.Proof.Gen.ReferenceIdeal
public import proofs.«01_k».proof.Proof.Gen.ReferenceIdeal.Run
public import proofs.«01_k».proof.Proof.Gen.Pre_bounded_KernelIdeal
public import Idealize.ShloMosaic.Lib.ReduceAll
public import Idealize.ShloMosaic.Lib.Pointwise.Reduce
public import Mathlib.Algebra.Order.BigOperators.Ring.Finset

@[expose] public section

noncomputable section

namespace Cert.Whole

open Idealize.ShloMosaic
open Idealize.ShloMosaic.TcCoe
open Cert.KernelIdeal.Talk (act rowCol gX wOf outG xOf)

/-! ## The inequality -/

/-- A square is not negative. -/
theorem sq_nonneg' (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- A number whose square is bounded is finite. -/
theorem real_of_sq_le {x : EReal} {b : ℝ} (h : x * x ≤ b) : ∃ r : ℝ, x = r := by
  induction x with
  | bot => rw [EReal.bot_mul_bot, top_le_iff] at h; exact absurd h (EReal.coe_ne_top b)
  | top => rw [EReal.top_mul_top, top_le_iff] at h; exact absurd h (EReal.coe_ne_top b)
  | coe r => exact ⟨r, rfl⟩

/-- A finite sum of finite numbers is the number of their sum. -/
theorem coe_sum' {n : ℕ} (f : Fin n → ℝ) : ∑ k, (f k : EReal) = ((∑ k, f k : ℝ) : EReal) :=
  (map_sum (⟨⟨Real.toEReal, EReal.coe_zero⟩, EReal.coe_add⟩ : ℝ →+ EReal) f Finset.univ).symm

/-- Numbers whose squares have a bounded sum are finite. -/
theorem reals_of_sum_le {n : ℕ} (a : Fin n → EReal) {b : ℝ} (h : ∑ k, a k * a k ≤ b) : ∃ f : Fin n → ℝ, a = fun k => (f k : EReal) := by
  have hk : ∀ k, ∃ r : ℝ, a k = r := fun k =>
    real_of_sq_le ((Finset.single_le_sum (f := fun k => a k * a k) (fun k _ => sq_nonneg' (a k)) (Finset.mem_univ k)).trans h)
  exact ⟨fun k => (hk k).choose, funext fun k => (hk k).choose_spec⟩

/-- Two lists of numbers with short norms have a product of at most 60. -/
theorem product_le {n : ℕ} (a b : Fin n → EReal) (ha : ∑ k, a k * a k ≤ ((4096 : ℝ) : EReal)) (hb : ∑ k, b k * b k ≤ ((225 / 256 : ℝ) : EReal)) :
    ∃ y : ℝ, ∑ k, a k * b k = y ∧ -60 ≤ y ∧ y ≤ 60 := by
  obtain ⟨f, rfl⟩ := reals_of_sum_le a ha
  obtain ⟨g, rfl⟩ := reals_of_sum_le b hb
  simp only [← EReal.coe_mul, coe_sum', EReal.coe_le_coe_iff] at ha hb ⊢
  simp only [← pow_two] at ha hb
  refine ⟨_, rfl, abs_le.1 (abs_le_of_sq_le_sq ?_ (by norm_num))⟩
  have h0 : 0 ≤ ∑ k, g k ^ 2 := Finset.sum_nonneg fun k _ => sq_nonneg _
  calc (∑ k, f k * g k) ^ 2 ≤ (∑ k, f k ^ 2) * ∑ k, g k ^ 2 := Finset.sum_mul_sq_le_sq_mul_sq _ _ _
    _ ≤ 4096 * (225 / 256) := mul_le_mul ha hb h0 (by norm_num)
    _ = 60 ^ 2 := by norm_num

/-! ## The precondition -/

theorem ofBits_4096 : Ideal.ofBits .f32 0x45800000#32 = ((4096 : ℝ) : EReal) := by
  simp [Ideal.ofBits, Ideal.ieee]
  rw [← EReal.coe_mul]
  norm_num

theorem ofBits_col : Ideal.ofBits .f32 0x3F610000#32 = ((225 / 256 : ℝ) : EReal) := by
  simp [Ideal.ofBits, Ideal.ieee]
  rw [← EReal.coe_mul]
  norm_num

theorem ofBits_60 : Ideal.ofBits .f32 0x42700000#32 = ((60 : ℝ) : EReal) := by
  simp [Ideal.ofBits, Ideal.ieee]
  rw [← EReal.coe_mul]
  norm_num

theorem ofBits_neg60 : Ideal.ofBits .f32 0xC2700000#32 = ((-60 : ℝ) : EReal) := by
  simp [Ideal.ofBits, Ideal.ieee]
  rw [← EReal.coe_mul]
  norm_num

/-- A comparison that gives one holds. -/
theorem le_of_cmp {x y : EReal} (h : Ideal.cmp .ole x y = 1#1) : x ≤ y := by
  by_contra hn
  have : Ideal.cmp .ole x y = 0#1 := by
    show BitVec.ofBool (decide (x ≤ y)) = 0#1
    rw [decide_eq_false hn]; rfl
  rw [this] at h
  exact absurd h (by decide)

theorem both_one {a b : BitVec 1} (h : IntOp.andi a b = 1#1) : a = 1#1 ∧ b = 1#1 := by
  revert h; revert a b; decide

instance : Subsingleton (⟨0, ![]⟩ : Shape).Idx := ⟨fun _ _ => funext fun a => a.elim0⟩

open Cert.Pre_bounded_KernelIdeal Cert.Pre_bounded_KernelIdeal.Facts in
/-- What the precondition says of a device's blocks: every row of the one and every column of the other is short. -/
theorem short (x : FVec Ideal ⟨2, ![1024, 4096]⟩ .f32) (w : FVec Ideal ⟨2, ![4096, 2048]⟩ .f32)
    (h : Cert.Pre_bounded_KernelIdeal.fn (F := Ideal) x w = fun _ => 1#1) :
    (∀ r : Fin 1024, ∑ k : Fin 4096, x (ValueIdx.ix2 r k) * x (ValueIdx.ix2 r k) ≤ ((4096 : ℝ) : EReal))
    ∧ (∀ j : Fin 2048, ∑ k : Fin 4096, w (ValueIdx.ix2 k j) * w (ValueIdx.ix2 k j) ≤ ((225 / 256 : ℝ) : EReal)) := by
  obtain ⟨h1, h2⟩ := both_one (congrFun h (fun a => a.elim0))
  refine ⟨fun r => ?_, fun j => ?_⟩
  · have e := le_of_cmp (Host.reduce_andi_all _ _ _ _ _ h1 (fun | ⟨0, _⟩ => r))
    refine le_trans (le_of_eq ?_) (e.trans (le_of_eq ofBits_4096))
    refine Eq.symm ((Ideal.hostReduceAdd_r2_a1 _ _ _ _).trans ?_)
    rw [show (constant (F := Ideal) S_ .f32 0x00000000#32 : FVec Ideal S_ .f32) (Shape.Idx.first h_S_) = 0 from Ideal.ofBits_zero_f32, zero_add]
    exact Finset.sum_congr rfl fun k _ => congrArg (fun i => x i * x i) (funext fun | ⟨0, _⟩ => rfl | ⟨1, _⟩ => rfl)
  · have e := le_of_cmp (Host.reduce_andi_all _ _ _ _ _ h2 (fun | ⟨0, _⟩ => j))
    refine le_trans (le_of_eq ?_) (e.trans (le_of_eq ofBits_col))
    refine Eq.symm ((Ideal.hostReduceAdd_r2_a0 _ _ _ _).trans ?_)
    rw [show (constant (F := Ideal) S_ .f32 0x00000000#32 : FVec Ideal S_ .f32) (Shape.Idx.first h_S_) = 0 from Ideal.ofBits_zero_f32, zero_add]
    exact Finset.sum_congr rfl fun k _ => congrArg (fun i => w i * w i) (funext fun | ⟨0, _⟩ => rfl | ⟨1, _⟩ => rfl)

/-! ## The reference -/

/-- The clip leaves a number of at most 60 in size. -/
theorem clip_eq {y : ℝ} (h1 : -60 ≤ y) (h2 : y ≤ 60) : min ((60 : ℝ) : EReal) (max ((-60 : ℝ) : EReal) (y : EReal)) = y := by
  rw [max_eq_right (EReal.coe_le_coe_iff.2 h1), min_eq_right (EReal.coe_le_coe_iff.2 h2)]

open Cert.ReferenceIdeal Cert.ReferenceIdeal.Gen in
/-- On short rows and columns the printed expression of the reference is the whole result. -/
theorem reference_eq (X : FVec Ideal S4096x4096 .f32) (W : FVec Ideal S4096x8192 .f32)
    (hX : ∀ r : Fin 4096, ∑ k : Fin 4096, X (ValueIdx.ix2 r k) * X (ValueIdx.ix2 r k) ≤ ((4096 : ℝ) : EReal))
    (hW : ∀ j : Fin 8192, ∑ k : Fin 4096, W (ValueIdx.ix2 k j) * W (ValueIdx.ix2 k j) ≤ ((225 / 256 : ℝ) : EReal)) :
    Host.divf (Host.dotGeneral dot_S4096x4096_S4096x8192_S4096x8192_1_0_0_1_n_n none X W)
      (addf (broadcastInDim S4096x8192 ![] bcast_S_S4096x8192 (constant S_ .f32 0x3F800000#32))
        (Host.exp (Host.negf (minimumf (broadcastInDim S4096x8192 ![] bcast_S_S4096x8192 (id (constant S_ .f32 0x42700000#32)))
          (maximumf (broadcastInDim S4096x8192 ![] bcast_S_S4096x8192 (id (constant S_ .f32 0xC2700000#32)))
            (Host.dotGeneral dot_S4096x4096_S4096x8192_S4096x8192_1_0_0_1_n_n none X W)))))) = whole X W := by
  funext i
  show Ideal.div (Host.dotGeneral (DotDims.plain 4096 4096 8192) none X W i)
    (Ideal.ofBits .f32 0x3F800000#32 + Ideal.exp (-(min (Ideal.ofBits .f32 0x42700000#32)
      (max (Ideal.ofBits .f32 0xC2700000#32) (Host.dotGeneral (DotDims.plain 4096 4096 8192) none X W i))))) = _
  obtain ⟨y, hy, h1, h2⟩ := product_le (fun k : Fin 4096 => X (ValueIdx.ix2 (i 0) k)) (fun k => W (ValueIdx.ix2 k (i 1))) (hX (i 0)) (hW (i 1))
  rw [product_at, ofBits_one, ofBits_60, ofBits_neg60, show rowCol X W (i 0) (i 1) = (y : EReal) from hy, clip_eq h1 h2, ← act_eq, ← hy]
  rfl

/-! ## From the blocks to the whole arrays -/

variable (X : (⟨2, ![4096, 4096]⟩ : Shape).Idx → EReal) (W : (⟨2, ![4096, 8192]⟩ : Shape).Idx → EReal)

/-- If the rows of every block of rows are short, the rows of the whole are. -/
theorem rows_short (h : ∀ (c : Fin 4) (r : Fin 1024), ∑ k : Fin 4096,
      Layout.block ⟨2, ![1024, 4096]⟩ ⟨2, ![4096, 4096]⟩ 0 4 c X (by decide) (ValueIdx.ix2 r k)
        * Layout.block ⟨2, ![1024, 4096]⟩ ⟨2, ![4096, 4096]⟩ 0 4 c X (by decide) (ValueIdx.ix2 r k) ≤ ((4096 : ℝ) : EReal)) (r : Fin 4096) :
    ∑ k : Fin 4096, X (ValueIdx.ix2 r k) * X (ValueIdx.ix2 r k) ≤ ((4096 : ℝ) : EReal) := by
  have hr := r.isLt
  refine le_trans (le_of_eq (Finset.sum_congr rfl fun k _ => ?_)) (h ⟨r.val / 1024, by omega⟩ ⟨r.val % 1024, Nat.mod_lt _ (by decide)⟩)
  refine congrArg (fun i => X i * X i) (funext fun a => Fin.ext ?_)
  match a with
  | ⟨0, _⟩ => exact (show r.val = r.val / 1024 * 1024 + r.val % 1024 by omega)
  | ⟨1, _⟩ => rfl

/-- If the columns of every block of columns are short, the columns of the whole are. -/
theorem columns_short (h : ∀ (c : Fin 4) (j : Fin 2048), ∑ k : Fin 4096,
      Layout.block ⟨2, ![4096, 2048]⟩ ⟨2, ![4096, 8192]⟩ 1 4 c W (by decide) (ValueIdx.ix2 k j)
        * Layout.block ⟨2, ![4096, 2048]⟩ ⟨2, ![4096, 8192]⟩ 1 4 c W (by decide) (ValueIdx.ix2 k j) ≤ ((225 / 256 : ℝ) : EReal)) (j : Fin 8192) :
    ∑ k : Fin 4096, W (ValueIdx.ix2 k j) * W (ValueIdx.ix2 k j) ≤ ((225 / 256 : ℝ) : EReal) := by
  have hj := j.isLt
  refine le_trans (le_of_eq (Finset.sum_congr rfl fun k _ => ?_)) (h ⟨j.val / 2048, by omega⟩ ⟨j.val % 2048, Nat.mod_lt _ (by decide)⟩)
  refine congrArg (fun i => W i * W i) (funext fun a => Fin.ext ?_)
  match a with
  | ⟨0, _⟩ => rfl
  | ⟨1, _⟩ => exact (show j.val = j.val / 2048 * 2048 + j.val % 2048 by omega)

end Cert.Whole

end
-- ==== Proof.lean ====
/-
  The claims about the gathered product, put together: the two runs of the kernel, the runs of the two references, and the values.
-/
module

public import proofs.«01_k».proof.Defs
public import proofs.«01_k».proof.Proof.Kernel.Result
public import proofs.«01_k».proof.Proof.KernelIdeal.Result
public import proofs.«01_k».proof.Proof.Whole
public import proofs.«01_k».proof.Proof.Bound
public import proofs.«01_k».proof.Proof.Gen.Pre_bounded_ReferenceIdeal
public import Idealize.ShloMosaic.Lib.Quiescent

@[expose] public section

noncomputable section

namespace Cert.Proof

open Idealize.ShloMosaic Idealize.SL.Sem
open Idealize.ShloMosaic.TcCoe
open Cert.Whole

/-! ## The runs -/

theorem kernel_runs : quiescent_Kernel := fun m g _ =>
  (θ_run Cert.Kernel.defs _ _).mono (fun _ h => ⟨fun c => (h.1 c).2, h.2⟩) (Cert.Kernel.Talk.run_result (F := Bits) m g)

theorem kernelIdeal_runs : quiescent_KernelIdeal := fun m g _ =>
  (θ_run Cert.KernelIdeal.defs _ _).mono (fun _ h => ⟨fun c => (h.1 c).2, h.2⟩) (Cert.KernelIdeal.Talk.run_result (F := Ideal) m g)

theorem reference_runs : quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem silu_runs : quiescent_SiluIdeal := fun m g _ =>
  (θ_run Cert.SiluIdeal.defs _ _).mono (fun r h => ⟨fun c => (h c).2, sem_eq_zero_of_no_sems (by decide) r.2⟩)
    (Cert.SiluIdeal.Value.run (F := Ideal) m g)

/-! ## The values -/

/-- On blocks of whole arrays every device ends with its block of the whole result. -/
theorem kernel_value (m : (ℓ : Loc Cert.KernelIdeal.nD Cert.KernelIdeal.τ Cert.KernelIdeal.sig) → Buf (Elt Ideal) ℓ)
    (g : Dev Cert.KernelIdeal.nD → PrngReg)
    (X : (⟨2, ![4096, 4096]⟩ : Shape).Idx → EReal) (W : (⟨2, ![4096, 8192]⟩ : Shape).Idx → EReal)
    (hx : ∀ c, Cert.KernelIdeal.Talk.xOf m c = Layout.block ⟨2, ![1024, 4096]⟩ ⟨2, ![4096, 4096]⟩ 0 4 c X)
    (hw : ∀ c, Cert.KernelIdeal.Talk.wOf m c = Layout.block ⟨2, ![4096, 2048]⟩ ⟨2, ![4096, 8192]⟩ 1 4 c W) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v3)
          = Layout.block ⟨2, ![4096, 2048]⟩ ⟨2, ![4096, 8192]⟩ 1 4 c (whole X W)
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)) :=
  (θ_run Cert.KernelIdeal.defs _ _).mono
    (fun _ h c => ⟨(h.1 c).1.trans ((Cert.KernelIdeal.Talk.outX_eq m c).trans (outG_block m X W hx hw c)), (h.1 c).2⟩)
    (Cert.KernelIdeal.Talk.run_result (F := Ideal) m g)

/-- Without the clip, for all arguments. -/
theorem silu_value : algebraic_KernelIdeal_SiluIdeal := fun m g m' g' _ hm =>
  ⟨_, kernel_value m g _ _ (fun c => (hm c).1) (fun c => (hm c).2),
    (θ_run Cert.SiluIdeal.defs _ _).mono (fun _ h => ⟨(h 0).1.trans (silu_eq _ _), (h 0).2⟩) (Cert.SiluIdeal.Value.run (F := Ideal) m' g')⟩

/-- With the clip, for short rows and columns. -/
theorem reference_value : algebraic_KernelIdeal_ReferenceIdeal_pre_bounded_KernelIdeal := fun m g m' g' hp hm =>
  ⟨_, kernel_value m g _ _ (fun c => (hm c).1) (fun c => (hm c).2),
    (θ_run Cert.ReferenceIdeal.defs _ _).mono (fun _ h => ⟨(h 0).1.trans (reference_eq _ _
        (rows_short _ fun c => (short _ _ ((hm c).1 ▸ (hm c).2 ▸ hp c)).1)
        (columns_short _ fun c => (short _ _ ((hm c).1 ▸ (hm c).2 ▸ hp c)).2)), (h 0).2⟩)
      (Cert.ReferenceIdeal.Value.run (F := Ideal) m' g')⟩

theorem claim : Cert.Claim :=
  ⟨Cert.Kernel.Gen.facts, Cert.KernelIdeal.Gen.facts, Cert.ReferenceIdeal.Gen.facts, Cert.SiluIdeal.Gen.facts,
    Cert.Pre_bounded_KernelIdeal.Gen.facts, Cert.Pre_bounded_ReferenceIdeal.Gen.facts,
    kernel_runs, kernelIdeal_runs, fun m g _ => kernelIdeal_runs m g trivial, reference_runs, fun m g _ => reference_runs m g trivial,
    silu_runs, trivial, reference_value, silu_value⟩

end Cert.Proof

end
